-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 × IVec S_ 1 × IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : FVec F S2x512x8x64 .f32 := Host.absf main_arg2
  let main_cst_2 : FVec F S_ .f32 := constant S_ .f32 0x7F800000#32
  let main_v9 : FVec F S2x512x8x64 .f32 := broadcastInDim S2x512x8x64 ![] bcast_S_S2x512x8x64 main_cst_2
  let main_v10 : IVec S2x512x8x64 1 := cmpf .olt main_v8 main_v9
  let main_c_3 : IVec S_ 1 := constantI S_ 1 1#1
  let main_v11 : IVec S_ 1 := (fun x v => Host.reduce IntOp.andi x v reducesTo_S2x512x8x64_S_d0_1_2_3 h_S_) main_v10 main_c_3
  (main_v3, main_v7, main_v11)
-- ==== Pre_finite_scores_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x512x768 .f32) (main_arg1 : FVec F S768x512 .f32) (main_arg2 : FVec F S2x4096x8x64 .f32) (main_arg3 : FVec F S2x4096x8x64 .f32) (main_arg4 : FVec F S512x768 .f32) : IVec S_ 1 × IVec S_ 1 × IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : FVec F S2x4096x8x64 .f32 := Host.absf main_arg2
  let main_cst_2 : FVec F S_ .f32 := constant S_ .f32 0x7F800000#32
  let main_v9 : FVec F S2x4096x8x64 .f32 := broadcastInDim S2x4096x8x64 ![] bcast_S_S2x4096x8x64 main_cst_2
  let main_v10 : IVec S2x4096x8x64 1 := cmpf .olt main_v8 main_v9
  let main_c_3 : IVec S_ 1 := constantI S_ 1 1#1
  let main_v11 : IVec S_ 1 := (fun x v => Host.reduce IntOp.andi x v reducesTo_S2x4096x8x64_S_d0_1_2_3 h_S_) main_v10 main_c_3
  (main_v3, main_v7, main_v11)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x512 : Shape := ⟨3, ![2, 512, 512]⟩
abbrev S8 : Shape := ⟨1, ![8]⟩
abbrev S_ : Shape := ⟨0, ![]⟩
abbrev S1x512x768 : Shape := ⟨3, ![1, 512, 768]⟩
abbrev S512x512 : Shape := ⟨2, ![512, 512]⟩
abbrev S1x512x8x64 : Shape := ⟨4, ![1, 512, 8, 64]⟩
abbrev S512x8x64 : Shape := ⟨3, ![512, 8, 64]⟩
abbrev S128x128 : Shape := ⟨2, ![128, 128]⟩
abbrev S128x64 : Shape := ⟨2, ![128, 64]⟩
abbrev S128x1x64 : Shape := ⟨3, ![128, 1, 64]⟩
abbrev S128 : Shape := ⟨1, ![128]⟩
abbrev S128x1 : Shape := ⟨2, ![128, 1]⟩
abbrev S1x128x64 : Shape := ⟨3, ![1, 128, 64]⟩
abbrev S1 : Shape := ⟨1, ![1]⟩
abbrev S1x128x512 : Shape := ⟨3, ![1, 128, 512]⟩
abbrev S128x512 : Shape := ⟨2, ![128, 512]⟩
abbrev S128x768 : Shape := ⟨2, ![128, 768]⟩
abbrev S1x128x768 : Shape := ⟨3, ![1, 128, 768]⟩
abbrev S128x256 : Shape := ⟨2, ![128, 256]⟩
abbrev S256x1x64 : Shape := ⟨3, ![256, 1, 64]⟩
abbrev S256x64 : Shape := ⟨2, ![256, 64]⟩
abbrev S128x384 : Shape := ⟨2, ![128, 384]⟩
abbrev S384x1x64 : Shape := ⟨3, ![384, 1, 64]⟩
abbrev S384x64 : Shape := ⟨2, ![384, 64]⟩
abbrev S512x1x64 : Shape := ⟨3, ![512, 1, 64]⟩
abbrev S512x64 : Shape := ⟨2, ![512, 64]⟩

abbrev nBuf : Space → Nat
  | .hbm => 6
  | .vmem => 7
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S2x512x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v31 : BitVec 1 := Scalar.cmpi .eq v2 c0_i32_20
  let v32 : BitVec 32 := Scalar.extui v31
  let c0_i32_48 : BitVec 32 := 0#32
  let v33 : BitVec 1 := Scalar.cmpi .ne v32 c0_i32_48
  v33

def k0_dev3 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_209 : BitVec 32 := 1#32
  let v288 : BitVec 32 := Scalar.muli v25 c1_i32_209
  let v289 : BitVec 32 := Scalar.addi c0_i32_210 v288
  v289.toNat
def k0_dev4 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_310 : BitVec 32 := 1#32
  let v543 : BitVec 32 := Scalar.muli v25 c1_i32_310
  let v544 : BitVec 32 := Scalar.addi c0_i32_311 v543
  v544.toNat
def k0_dev5 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_411 : BitVec 32 := 1#32
  let v798 : BitVec 32 := Scalar.muli v25 c1_i32_411
  let v799 : BitVec 32 := Scalar.addi c0_i32_412 v798
  v799.toNat
def k0_dev6 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_512 : BitVec 32 := 1#32
  let v1053 : BitVec 32 := Scalar.muli v25 c1_i32_512
  let v1054 : BitVec 32 := Scalar.addi c0_i32_513 v1053
  v1054.toNat
def k0_dev7 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_627 : BitVec 32 := 1#32
  let v1317 : BitVec 32 := Scalar.muli v25 c1_i32_627
  let v1318 : BitVec 32 := Scalar.addi c0_i32_628 v1317
  v1318.toNat
def k0_dev8 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_729 : BitVec 32 := 1#32
  let v1572 : BitVec 32 := Scalar.muli v25 c1_i32_729
  let v1573 : BitVec 32 := Scalar.addi c0_i32_730 v1572
  v1573.toNat
def k0_dev9 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_831 : BitVec 32 := 1#32
  let v1827 : BitVec 32 := Scalar.muli v25 c1_i32_831
  let v1828 : BitVec 32 := Scalar.addi c0_i32_832 v1827
  v1828.toNat
def k0_dev10 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_933 : BitVec 32 := 1#32
  let v2082 : BitVec 32 := Scalar.muli v25 c1_i32_933
  let v2083 : BitVec 32 := Scalar.addi c0_i32_934 v2082
  v2083.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v34 : BitVec 1 := Scalar.cmpi .sgt v2 c0_i32_49
  let c7_i32_50 : BitVec 32 := 7#32
  let v35 : BitVec 1 := Scalar.cmpi .slt v2 c7_i32_50
  let v36 : BitVec 1 := Scalar.andi v34 v35
  let v37 : BitVec 32 := Scalar.extui v36
  let c0_i32_83 : BitVec 32 := 0#32
  let v38 : BitVec 1 := Scalar.cmpi .ne v37 c0_i32_83
  v38

def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_124 : BitVec 32 := 1#32
  let v50 : BitVec 32 := Scalar.muli v25 c1_i32_124
  let v51 : BitVec 32 := Scalar.addi c0_i32_125 v50
  v51.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_142 : BitVec 32 := 1#32
  let v76 : BitVec 32 := Scalar.muli v25 c1_i32_142
  let v77 : BitVec 32 := Scalar.addi c0_i32_143 v76
  v77.toNat
def k0_dev13 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_161 : BitVec 32 := 1#32
  let v102 : BitVec 32 := Scalar.muli v25 c1_i32_161
  let v103 : BitVec 32 := Scalar.addi c0_i32_162 v102
  v103.toNat
def k0_dev14 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_180 : BitVec 32 := 1#32
  let v128 : BitVec 32 := Scalar.muli v25 c1_i32_180
  let v129 : BitVec 32 := Scalar.addi c0_i32_181 v128
  v129.toNat
def k0_dev15 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_200 : BitVec 32 := 1#32
  let v154 : BitVec 32 := Scalar.muli v25 c1_i32_200
  let v155 : BitVec 32 := Scalar.addi c0_i32_201 v154
  v155.toNat
def k0_dev16 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_220 : BitVec 32 := 1#32
  let v180 : BitVec 32 := Scalar.muli v25 c1_i32_220
  let v181 : BitVec 32 := Scalar.addi c0_i32_221 v180
  v181.toNat
def k0_dev17 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_241 : BitVec 32 := 1#32
  let v206 : BitVec 32 := Scalar.muli v25 c1_i32_241
  let v207 : BitVec 32 := Scalar.addi c0_i32_242 v206
  v207.toNat
def k0_dev18 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_262 : BitVec 32 := 1#32
  let v232 : BitVec 32 := Scalar.muli v25 c1_i32_262
  let v233 : BitVec 32 := Scalar.addi c0_i32_263 v232
  v233.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x4096x8x64, .f32⟩
  | .hbm, ⟨3, _⟩ => ⟨S2x4096x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S512x4096, .i32⟩
  | .hbm, ⟨48, _⟩ => ⟨S512x4096, .i32⟩
  | .hbm, ⟨49, _⟩ => ⟨S512x4096, .i1⟩
  | .hbm, ⟨50, _⟩ => ⟨S2x8x512x4096, .f32⟩
  | .hbm, ⟨51, _⟩ => ⟨S_, .f32⟩
  | .hbm, ⟨52, _⟩ => ⟨S2x8x512x4096, .f32⟩
  | .hbm, ⟨53, _⟩ => ⟨S2x8x512x4096, .f32⟩
  | .hbm, ⟨54, _⟩ => ⟨S1x1x512x4096, .i1⟩
  | .hbm, ⟨55, _⟩ => ⟨S_, .f32⟩
  | .hbm, ⟨56, _⟩ => ⟨S_, .f32⟩
  | .hbm, ⟨57, _⟩ => ⟨S2x8x512x4096, .i1⟩
  | .hbm, ⟨58, _⟩ => ⟨S2x8x512x4096, .f32⟩
  | .hbm, ⟨59, _⟩ => ⟨S2x8x512x4096, .f32⟩
  | .hbm, ⟨60, _⟩ => ⟨S_, .f32⟩
  | .hbm, ⟨61, _⟩ => ⟨S2x8x512, .f32⟩
  | .hbm, ⟨62, _⟩ => ⟨S2x8x512x1, .f32⟩
  | .hbm, ⟨63, _⟩ => ⟨S2x8x512x4096, .f32⟩
  | .hbm, ⟨64, _⟩ => ⟨S2x8x512x4096, .f32⟩
  | .hbm, ⟨65, _⟩ => ⟨S2x8x512x4096, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x8x512, .f32⟩
  | .hbm, ⟨71, _⟩ => ⟨S2x8x512x1, .f32⟩
  | .hbm, ⟨72, _⟩ => ⟨S_, .f32⟩
  | .hbm, ⟨73, _⟩ => ⟨S_, .f32⟩
  | .hbm, ⟨74, _⟩ => ⟨S2x8x512x1, .i1⟩
  | .hbm, ⟨75, _⟩ => ⟨S2x8x512x1, .f32⟩
  | .hbm, ⟨76, _⟩ => ⟨S2x8x512x1, .f32⟩
  | .hbm, ⟨77, _⟩ => ⟨S2x8x512x4096, .f32⟩
  | .hbm, ⟨78, _⟩ => ⟨S2x8x512x4096, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x8x512x4096, .i1⟩
  | .hbm, ⟨83, _⟩ => ⟨S2x8x512x4096, .f32⟩
  | .hbm, ⟨84, _⟩ => ⟨S2x8x512x4096, .f32⟩
  | .hbm, ⟨85, _⟩ => ⟨S2x8x64x512, .f32⟩
  | .hbm, ⟨86, _⟩ => ⟨S2x512x8x64, .f32⟩
  | .hbm, ⟨87, _⟩ => ⟨S2x512x512, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Ctx.lean ====
/-
  The values the ring moves, as pure functions of device 0's operands: the attention of one head over one chunk of 128
  query rows, the context buffer those heads fill, and the projection of a chunk by a device's weights. Stated once for
  every number of key rows, so that each head of the printed kernel is an instance of one definition.
-/
module

public import proofs.«01_k».proof.Proof.Gen.KernelIdeal
public import proofs.«01_k».proof.Proof.Gen.KernelIdeal.Skeleton
public import Idealize.ShloMosaic.Lib.Tactic

@[expose] public section

noncomputable section

namespace Cert.RingIdeal

open Cert.KernelIdeal Cert.KernelIdeal.Gen
open Idealize.ShloMosaic Idealize.SL.Sem

variable {F : FTy → Type} [FloatOps F] [Named F]

/-- A block of 128 query rows against `K` key rows. -/
abbrev SQK (K : ℕ) : Shape := ⟨2, ![128, K]⟩
/-- One head of `K` rows of the keys, before the head axis is dropped. -/
abbrev SK1 (K : ℕ) : Shape := ⟨3, ![K, 1, 64]⟩
/-- One head of `K` rows of the keys or of the values. -/
abbrev SK (K : ℕ) : Shape := ⟨2, ![K, 64]⟩

/-- The conditions under which a head over `K` key rows is well formed. -/
structure HeadFacts (K : ℕ) : Prop where
  i0 : (SQK K).Iotas .tc 32 [0]
  i1 : (SQK K).Iotas .tc 32 [1]
  cast : (SK1 K).ShapeCasts (SK K)
  red : (SQK K).Reduces [1] S128
  bcast : S128x1.Broadcasts (SQK K)
  wfQK : DotDims.WF S128x64 (SK K) (SQK K) [1] [1] [0] [0] [] []
  wfPV : DotDims.WF (SQK K) (SK K) S128x64 [1] [0] [0] [1] [] []

theorem headFacts128 : HeadFacts 128 where
  i0 := iota_S128x128_d0_w32
  i1 := iota_S128x128_d1_w32
  cast := shapeCasts_S128x1x64_S128x64
  red := reduces_S128x128_S128
  bcast := broadcasts_S128x1_S128x128
  wfQK := dot_S128x64_S128x64_S128x128_1_1_0_0_n_n_wf
  wfPV := dot_S128x128_S128x64_S128x64_1_0_0_1_n_n_wf

theorem headFacts256 : HeadFacts 256 where
  i0 := iota_S128x256_d0_w32
  i1 := iota_S128x256_d1_w32
  cast := shapeCasts_S256x1x64_S256x64
  red := reduces_S128x256_S128
  bcast := broadcasts_S128x1_S128x256
  wfQK := dot_S128x64_S256x64_S128x256_1_1_0_0_n_n_wf
  wfPV := dot_S128x256_S256x64_S128x64_1_0_0_1_n_n_wf

theorem headFacts384 : HeadFacts 384 where
  i0 := iota_S128x384_d0_w32
  i1 := iota_S128x384_d1_w32
  cast := shapeCasts_S384x1x64_S384x64
  red := reduces_S128x384_S128
  bcast := broadcasts_S128x1_S128x384
  wfQK := dot_S128x64_S384x64_S128x384_1_1_0_0_n_n_wf
  wfPV := dot_S128x384_S384x64_S128x64_1_0_0_1_n_n_wf

theorem headFacts512 : HeadFacts 512 where
  i0 := iota_S128x512_d0_w32
  i1 := iota_S128x512_d1_w32
  cast := shapeCasts_S512x1x64_S512x64
  red := reduces_S128x512_S128
  bcast := broadcasts_S128x1_S128x512
  wfQK := dot_S128x64_S512x64_S128x512_1_1_0_0_n_n_wf
  wfPV := dot_S128x512_S512x64_S128x64_1_0_0_1_n_n_wf

variable {K : ℕ}

/-- Division of every entry by 64 rounded down, as the kernel spells it: the quotient rounded to zero, lowered by one
    where the signs differ and the remainder is not zero. -/
def fdiv64 {s : Shape} (r : IVec s 32) : IVec s 32 :=
  select
    (andi
      (cmpi .ne
        (subi (extui 32 (cmpi .sgt r (broadcast s 0#32)) natLt_1_32) (extui 32 (cmpi .slt r (broadcast s 0#32)) natLt_1_32))
        (broadcast s (Scalar.subi (Scalar.extui (Scalar.cmpi .sgt 64#32 0#32) : BitVec 32)
          (Scalar.extui (Scalar.cmpi .slt 64#32 0#32)))))
      (cmpi .ne (remsi r (broadcast s 64#32)) (broadcast s 0#32)))
    (subi (divsi r (broadcast s 64#32)) (broadcast s 1#32))
    (divsi r (broadcast s 64#32))

/-- Which keys a chunk of queries starting at row `off` may attend to: those whose block of 64 is not later than the query's. -/
def maskOf (hf : HeadFacts K) (off : BitVec 32) : IVec (SQK K) 1 :=
  cmpi .sle (fdiv64 (iota .tc (SQK K) 32 [1] hf.i1))
    (fdiv64 (addi (iota .tc (SQK K) 32 [0] hf.i0) (broadcast (SQK K) off)))

/-- The masked and scaled scores of one head. -/
def scoreOf (hf : HeadFacts K) (off : BitVec 32) {oq : Fin 2 → ℕ} (hq : S512x512.Slices oq S128x64)
    {ok : Fin 3 → ℕ} (hk : S512x8x64.Slices ok (SK1 K)) (q : FVec F S512x512 .f32) (k : FVec F S512x8x64 .f32) :
    FVec F (SQK K) .f32 :=
  select (maskOf hf off)
    (mulf
      (matmul ⟨[1], [1], [0], [0], [], [], hf.wfQK⟩ none (extractStridedSlice S128x64 oq q hq)
        (shapeCast (SK K) (extractStridedSlice (SK1 K) ok k hk) hf.cast) (constant (SQK K) .f32 0x00000000#32))
      (broadcast (SQK K) (Scalar.ofBits .f32 0x3E000000#32)))
    (broadcast (SQK K) (Named.named κ "mask" 0xCE6E6B28#32))

/-- The exponentials of a block of scores, each row shifted by its maximum. -/
def expOf (hf : HeadFacts K) (s : FVec F (SQK K) .f32) : FVec F (SQK K) .f32 :=
  exp (subf s
    (broadcastTo (SQK K)
      (shapeCast S128x1 (multiReduction .maximumf [1] S128 s 0xFF800000#32 hf.red (.inl rfl) rfl) shapeCasts_S128_S128x1)
      hf.bcast))

/-- The weights: the exponentials divided by their row sums. -/
def softOf (hf : HeadFacts K) (e : FVec F (SQK K) .f32) : FVec F (SQK K) .f32 :=
  divf e
    (broadcastTo (SQK K)
      (shapeCast S128x1 (multiReduction .add [1] S128 e 0x00000000#32 hf.red (.inl rfl) rfl) shapeCasts_S128_S128x1)
      hf.bcast)

/-- One head of a chunk of 128 query rows: the weights applied to the values. -/
def att (hf : HeadFacts K) (off : BitVec 32) {oq : Fin 2 → ℕ} (hq : S512x512.Slices oq S128x64)
    {ok : Fin 3 → ℕ} (hk : S512x8x64.Slices ok (SK1 K)) (q : FVec F S512x512 .f32) (k v : FVec F S512x8x64 .f32) :
    FVec F S1x128x64 .f32 :=
  shapeCast S1x128x64
    (matmul ⟨[1], [0], [0], [1], [], [], hf.wfPV⟩ none (softOf hf (expOf hf (scoreOf hf off hq hk q k)))
      (shapeCast (SK K) (extractStridedSlice (SK1 K) ok v hk) hf.cast) (constant S128x64 .f32 0x00000000#32))
    shapeCasts_S128x64_S1x128x64

theorem sliceQ (c : Fin 4) (h : Fin 8) : S512x512.Slices ![128 * c.val, 64 * h.val] S128x64 := by
  revert c h; decide

theorem sliceK (K : ℕ) (hK : K ≤ 512) (h : Fin 8) : S512x8x64.Slices ![0, h.val, 0] (SK1 K) := by
  refine ⟨rfl, fun a => ?_⟩
  fin_cases a
  · simpa using hK
  · have := h.isLt
    show h.val + 1 ≤ 8
    omega
  · simp [SK1]

/-- Head `h` of chunk `c`: the chunk sees the keys up to its own last row. -/
def headOf (c : Fin 4) (h : Fin 8) (q : FVec F S512x512 .f32) (k v : FVec F S512x8x64 .f32) : FVec F S1x128x64 .f32 :=
  match c with
  | 0 => att headFacts128 0#32 (sliceQ 0 h) (sliceK 128 (by omega) h) q k v
  | 1 => att headFacts256 128#32 (sliceQ 1 h) (sliceK 256 (by omega) h) q k v
  | 2 => att headFacts384 256#32 (sliceQ 2 h) (sliceK 384 (by omega) h) q k v
  | 3 => att headFacts512 384#32 (sliceQ 3 h) (sliceK 512 (by omega) h) q k v

end Cert.RingIdeal
end
-- ==== Proof.Ring.lean ====
/-
  The ring's protocol: the cells, what each holds when it is paid, what a device owes at launch, the levels.
-/
module

public import proofs.«01_k».proof.Proof.Ctx
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring of devices -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-! ## The memrefs and the cells -/

abbrev cM : Memref sig .tc .vmem S2x512x512 .f32 := Memref.whole cc0_scratch0

theorem inbC (i : Fin 8) : ∀ a, (![i.val / 4, 128 * (i.val % 4), 0] : Fin 3 → ℕ) a + S1x128x512.size a ≤ S2x512x512.size a := by
  revert i; decide
theorem inbS (i : Fin 8) : ∀ a, (![i.val] : Fin 1 → ℕ) a + S1.size a ≤ S8.size a := by revert i; decide

/-- Chunk `i` of a device's context buffer: batch `i / 4`, rows `128 (i % 4)` to `128 (i % 4) + 127`. -/
abbrev cRect (i : Fin 8) : Rect S2x512x512 := Rect.unit (s := S2x512x512) ![i.val / 4, 128 * (i.val % 4), 0] S1x128x512.size (inbC i)
abbrev chunkM (i : Fin 8) : Memref sig .tc .vmem S128x512 .f32 :=
  (cM.slice (cRect i) (fun _ => rfl)).squeeze S128x512 squeezes_S1x128x512_S128x512
abbrev sendS (i : Fin 8) : DmaSems sig S_ := (cc0_scratch1.slice (Rect.unit (s := S8) ![i.val] S1.size (inbS i))).squeeze S_ squeezes_S1_S_
abbrev recvS (i : Fin 8) : DmaSems sig S_ := (cc0_scratch2.slice (Rect.unit (s := S8) ![i.val] S1.size (inbS i))).squeeze S_ squeezes_S1_S_
abbrev barS : Sem sig := (SemArray.scalar (sig.barrier 0 rfl) : Sems sig S_).sem

/-- A device's cells: the barrier, and per chunk the send (`false`) and the receive (`true`) cell. -/
abbrev CI : Type := Option (Bool × Fin 8)

def osem (k : Bool × Fin 8) : SemLoc sig := if k.1 then .dma (recvS k.2).sem else .dma (sendS k.2).sem
def csem : CI → SemLoc sig
  | none => .reg barS
  | some k => osem k
abbrev kcell (ck : Dev nD × CI) : GSem nD τ sig := ((ck.1 : Thread nD τ), csem ck.2)

abbrev barCell (c : Dev nD) : GSem nD τ sig := ((c : Thread nD τ), .reg barS)
abbrev sendCell (c : Dev nD) (i : Fin 8) : GSem nD τ sig := ((c : Thread nD τ), .dma (sendS i).sem)
abbrev recvCell (c : Dev nD) (i : Fin 8) : GSem nD τ sig := ((c : Thread nD τ), .dma (recvS i).sem)

theorem csem_injective : Function.Injective csem := by
  have h : ∀ k k' : CI, csem k = csem k' → k = k' := by decide
  exact fun k k' => h k k'

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of a device's cells a semaphore is, if one. -/
def dec (sm : SemLoc sig) : Option CI := if h : ∃ k, csem k = sm then some h.choose else none

theorem dec_csem (k : CI) : dec (csem k) = some k := by
  unfold dec
  have h : ∃ k', csem k' = csem k := ⟨k, rfl⟩
  rw [dif_pos h, csem_injective h.choose_spec]

theorem dec_none (sm : SemLoc sig) (h : ∀ k, csem k ≠ sm) : dec sm = none := by
  unfold dec
  rw [dif_neg fun ⟨k, hk⟩ => h k hk]

theorem dec_bar : dec (.reg barS) = some none := dec_csem none
theorem dec_send (i : Fin 8) : dec (.dma (sendS i).sem) = some (some (false, i)) := dec_csem (some (false, i))
theorem dec_recv (i : Fin 8) : dec (.dma (recvS i).sem) = some (some (true, i)) := dec_csem (some (true, i))

/-- What the transfer of a chunk credits. -/
abbrev N : ℕ := (chunkM 0).view.dmaCredit
theorem N_pos : 0 < N := View.dmaCredit_pos _ (by decide)

/-! ## Contents -/

def xV (c : Dev nD) : (cc0_stg0_0 : Ref sig .tc).ty.Contents (Elt F) :=
  (win0_0.blk (0 : Fin 1)).view.read (Elt F) (m ((c : Thread nD τ).loc main_arg0))
def wqV (c : Dev nD) : (cc0_stg1_0 : Ref sig .tc).ty.Contents (Elt F) :=
  (win0_1.blk (0 : Fin 1)).view.read (Elt F) (m ((c : Thread nD τ).loc main_arg1))
def kV (c : Dev nD) : (cc0_stg2_0 : Ref sig .tc).ty.Contents (Elt F) :=
  (win0_2.blk (0 : Fin 1)).view.read (Elt F) (m ((c : Thread nD τ).loc main_arg2))
def vV (c : Dev nD) : (cc0_stg3_0 : Ref sig .tc).ty.Contents (Elt F) :=
  (win0_3.blk (0 : Fin 1)).view.read (Elt F) (m ((c : Thread nD τ).loc main_arg3))
def woV (c : Dev nD) : (cc0_stg4_0 : Ref sig .tc).ty.Contents (Elt F) :=
  (win0_4.blk (0 : Fin 1)).view.read (Elt F) (m ((c : Thread nD τ).loc main_arg4))

theorem inbX (b : Fin 2) : ∀ a, (![b.val, 0, 0] : Fin 3 → ℕ) a + S1x512x768.size a ≤ S2x512x768.size a := by revert b; decide
theorem inbK (b : Fin 2) : ∀ a, (![b.val, 0, 0, 0] : Fin 4 → ℕ) a + S1x512x8x64.size a ≤ S2x512x8x64.size a := by revert b; decide

/-- What device `c` reads of its operands: batch `b` of the input, of the keys, of the values; the two weights. -/
def xR (c : Dev nD) (b : Fin 2) : Vec F S1x512x768 .f32 :=
  (Memref.whole cc0_stg0_0 : Memref sig .tc .vmem S2x512x768 .f32).view.readAt (Elt F) (Rect.unit (s := S2x512x768) ![b.val, 0, 0] S1x512x768.size (inbX b)).toLoadRect (xV m c)
def wqR (c : Dev nD) : Vec F S768x512 .f32 :=
  (Memref.whole cc0_stg1_0 : Memref sig .tc .vmem S768x512 .f32).view.readAt (Elt F) (Rect.unit (s := S768x512) ![0, 0] S768x512.size inb_S768x512_S768x512_0_0).toLoadRect (wqV m c)
def kR (c : Dev nD) (b : Fin 2) : Vec F S1x512x8x64 .f32 :=
  (Memref.whole cc0_stg2_0 : Memref sig .tc .vmem S2x512x8x64 .f32).view.readAt (Elt F) (Rect.unit (s := S2x512x8x64) ![b.val, 0, 0, 0] S1x512x8x64.size (inbK b)).toLoadRect (kV m c)
def vR (c : Dev nD) (b : Fin 2) : Vec F S1x512x8x64 .f32 :=
  (Memref.whole cc0_stg3_0 : Memref sig .tc .vmem S2x512x8x64 .f32).view.readAt (Elt F) (Rect.unit (s := S2x512x8x64) ![b.val, 0, 0, 0] S1x512x8x64.size (inbK b)).toLoadRect (vV m c)
def woR (c : Dev nD) : Vec F S512x768 .f32 :=
  (Memref.whole cc0_stg4_0 : Memref sig .tc .vmem S512x768 .f32).view.readAt (Elt F) (Rect.unit (s := S512x768) ![0, 0] S512x768.size inb_S512x768_S512x768_0_0).toLoadRect (woV m c)

/-- Head `h` of chunk `c` of batch `b`, from device 0's operands. -/
def headV (b : Fin 2) (c : Fin 4) (h : Fin 8) : FVec F S1x128x64 .f32 :=
  headOf c h (k0_pay2 (xR m 0 b) (wqR m 0)) (k0_pay3 (kR m 0 b)) (k0_pay4 (vR m 0 b))

/-- Where an entry of the context buffer lies in the head that fills it. -/
def headIx (y : S2x512x512.Idx) : S1x128x64.Idx := fun a =>
  match a with
  | ⟨0, _⟩ => (⟨0, Nat.one_pos⟩ : Fin 1)
  | ⟨1, _⟩ => (⟨(y 1).val % 128, Nat.mod_lt _ (by decide)⟩ : Fin 128)
  | ⟨2, _⟩ => (⟨(y 2).val % 64, Nat.mod_lt _ (by decide)⟩ : Fin 64)

/-- The context buffer once every head is in: what travels down the ring. -/
def ctxB : S2x512x512.Idx → F .f32 := fun y =>
  headV m (y 0) ⟨(y 1).val / 128, by have h : (y 1).val < 512 := (y 1).isLt; omega⟩
    ⟨(y 2).val / 64, by have h : (y 2).val < 512 := (y 2).isLt; omega⟩ (headIx y)

/-- Chunk `i` of the context, as a load reads it. -/
def ctxC (i : Fin 8) : Vec F S1x128x512 .f32 := cM.view.readAt (Elt F) (cRect i).toLoadRect (ctxB m)

/-- Where an entry of the result lies in the chunk's projection. -/
def projIx (y : S2x512x768.Idx) : S1x128x768.Idx := fun a =>
  match a with
  | ⟨0, _⟩ => (⟨0, Nat.one_pos⟩ : Fin 1)
  | ⟨1, _⟩ => (⟨(y 1).val % 128, Nat.mod_lt _ (by decide)⟩ : Fin 128)
  | ⟨2, _⟩ => y 2

/-- A device's result: every chunk of the context times the device's projection weights. -/
def outB (c : Dev nD) : S2x512x768.Idx → F .f32 := fun y =>
  k0_pay1 (ctxC m ⟨4 * (y 0).val + (y 1).val / 128, by
    have h0 : (y 0).val < 2 := (y 0).isLt
    have h1 : (y 1).val < 512 := (y 1).isLt
    omega⟩) (woR m c) (projIx y)

/-! ## Chunks of the context buffer as resources -/

/-- Chunk `i` of device `c`'s context buffer at share `q`, contents `f`. -/
def chk (c : Dev nD) (i : Fin 8) (q : PosShare TreeShare) (f : S2x512x512.Idx → F .f32) : sProp 𝕄 :=
  (chunkM i).view.loc (c : Thread nD τ) ↦[(chunkM i).view.set]{q} f

omit [FloatOps F] [Named F] in
instance chk_storable (c : Dev nD) (i : Fin 8) (q) (f) : BI.Storable (upEmb : UEmb _ 𝕄) (chk (F := F) c i q f) := by unfold chk; infer_instance

theorem chunk_set (i : Fin 8) : (chunkM i).view.set = (cRect i).set := by
  show ((cM.view.slice (cRect i)).reshape S128x512 _).set = _
  rw [View.set_reshape]; exact View.set_slice_whole _ _

theorem mem_chunk {i : Fin 8} {y : S2x512x512.Idx} :
    y ∈ (cRect i).set ↔ (y 0).val = i.val / 4 ∧ (y 1).val / 128 = i.val % 4 := by
  rw [Rect.mem_set_unit]
  have h2 : (y 2).val < 512 := (y 2).isLt
  constructor
  · intro h
    have h0 := h 0
    have h1 := h 1
    simp at h0 h1
    omega
  · rintro ⟨h0, h1⟩ a
    fin_cases a <;> simp <;> omega

/-- The entries of chunk `i`. -/
def cset (i : Fin 8) : Finset S2x512x512.Idx := (cRect i).set

theorem mem_cset {i : Fin 8} {y : S2x512x512.Idx} :
    y ∈ cset i ↔ (y 0).val = i.val / 4 ∧ (y 1).val / 128 = i.val % 4 := mem_chunk

theorem chunks_cover (y : S2x512x512.Idx) : ∃ i : Fin 8, y ∈ cset i := by
  have h0 : (y 0).val < 2 := (y 0).isLt
  have h1 : (y 1).val < 512 := (y 1).isLt
  exact ⟨⟨4 * (y 0).val + (y 1).val / 128, by omega⟩, mem_cset.mpr ⟨by simp only []; omega, by simp only []; omega⟩⟩

theorem chunks_disjoint : ∀ i ∈ (Finset.univ : Finset (Fin 8)), ∀ j ∈ (Finset.univ : Finset (Fin 8)), i ≠ j →
    Disjoint (cset i) (cset j) := by
  intro i _ j _ hij
  refine Finset.disjoint_left.mpr fun y hy hy' => hij (Fin.ext ?_)
  have h := mem_cset.mp hy
  have h' := mem_cset.mp hy'
  have := i.isLt; have := j.isLt
  omega

omit [FloatOps F] [Named F] in
/-- A chunk's points-to over the entries of the chunk. -/
theorem chk_eq (c : Dev nD) (i : Fin 8) (q) (f : S2x512x512.Idx → F .f32) :
    (chk c i q f : sProp 𝕄) = (((c : Thread nD τ).loc cc0_scratch0) ↦[cset i]{q} f) := by
  unfold chk
  exact congrArg (fun S : Finset S2x512x512.Idx => (((c : Thread nD τ).loc cc0_scratch0) ↦[S]{q} f : sProp 𝕄)) (chunk_set i)

omit [FloatOps F] [Named F] in
/-- The whole context buffer is its eight chunks. -/
theorem chunks_eq (c : Dev nD) (f : S2x512x512.Idx → F .f32) :
    (((c : Thread nD τ).loc cc0_scratch0) ↦{fullShare} (f : Buf (Elt F) ((c : Thread nD τ).loc cc0_scratch0)) : sProp 𝕄)
      = bigSep Finset.univ fun i => chk c i fullShare f := by
  rw [bigSep_congr (fun i _ => chk_eq c i fullShare f)]
  have h := pointsTo_biUnion (Ix := Unit) (Name := ℕ) (U := UU) (Lvl := ℕ) (Val := Elt F) (ℓ := (c : Thread nD τ).loc cc0_scratch0) (q := fullShare) (f := f) Finset.univ cset chunks_disjoint
  refine Eq.trans (congrArg (fun S => (((c : Thread nD τ).loc cc0_scratch0) ↦[S]{fullShare} f : sProp 𝕄)) ?_) h
  refine (Finset.eq_univ_of_forall fun y => ?_).symm
  obtain ⟨i, hi⟩ := chunks_cover y
  exact Finset.mem_biUnion.mpr ⟨i, Finset.mem_univ _, hi⟩

omit [FloatOps F] [Named F] in
theorem chk_congr (c : Dev nD) (i : Fin 8) (q) {f g : S2x512x512.Idx → F .f32}
    (h : ∀ y : S2x512x512.Idx, (y 0).val = i.val / 4 → (y 1).val / 128 = i.val % 4 → f y = g y) :
    (chk c i q f : sProp 𝕄) = chk c i q g := by
  rw [chk_eq, chk_eq]
  exact pointsTo_congr fun y hy => h y (mem_cset.mp hy).1 (mem_cset.mp hy).2

/-! ## The schedule -/

/-- What the next device's signal hands `c`: that device's whole context buffer, chunk by chunk, at any contents, and that it is
    at the first round of its receive cells. The last device is handed nothing. -/
def barPay (c : Dev nD) : sProp 𝕄 :=
  if c.val = 7 then iprop(emp) else
    bigSep Finset.univ fun i : Fin 8 => iprop((∃ f, chk (nxt c) i fullShare f) ∗ reached ER (recvCell (nxt c) i) 0)
def recvPay (c : Dev nD) (i : Fin 8) : sProp 𝕄 := chk c i fullShare (ctxB m)
def sendPay (c : Dev nD) (i : Fin 8) : sProp 𝕄 := chk c i fullShare.right (ctxB m)

omit [FloatOps F] [Named F] in
instance barPay_storable (c : Dev nD) : BI.Storable (upEmb : UEmb _ 𝕄) (barPay (F := F) c) := by
  unfold barPay; split <;> infer_instance

/-- One round: a barrier cell has two duties of one unit each, from the two neighbours; a receive cell of any device but the
    first and a send cell of any device but the last have one duty of a chunk's credit; no other cell has any. -/
def rd : Rounds.Schedule (GSem nD τ sig) Bool 𝕄 where
  duties g r := if r = 0 ∧ g.1.2 = .tc then
      (match dec g.2 with
        | some none => Finset.univ
        | some (some (true, _)) => if g.1.1.val = 0 then ∅ else {false}
        | some (some (false, _)) => if g.1.1.val = 7 then ∅ else {false}
        | none => ∅) else ∅
  unitless _ := False
  amount g _ _ := if dec g.2 = some none then 1 else N
  payload g _ d := match dec g.2 with
    | some none => if d then barPay g.1.1 else iprop(emp)
    | some (some (true, i)) => recvPay m g.1.1 i
    | some (some (false, i)) => sendPay m g.1.1 i
    | none => iprop(emp)
  amount_pos g _ _ _ := by
    by_cases h : dec g.2 = some none
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  dsimp only [rd]
  unfold recvPay sendPay
  (repeat' split) <;> infer_instance

section Sched
variable (c : Dev nD) (i : Fin 8)

theorem duties_bar : (rd (F := F) m).duties (barCell c) 0 = Finset.univ := by
  dsimp only [rd]; rw [if_pos ⟨rfl, rfl⟩, dec_bar]
theorem duties_send (h : c.val ≠ 7) : (rd (F := F) m).duties (sendCell c i) 0 = {false} := by
  dsimp only [rd]; rw [if_pos ⟨rfl, rfl⟩, dec_send]; exact if_neg h
theorem duties_recv (h : c.val ≠ 0) : (rd (F := F) m).duties (recvCell c i) 0 = {false} := by
  dsimp only [rd]; rw [if_pos ⟨rfl, rfl⟩, dec_recv]; exact if_neg h
theorem duties_later (g : GSem nD τ sig) : ∀ r, 1 ≤ r → (rd (F := F) m).duties g r = ∅ :=
  fun r hr => by dsimp only [rd]; exact if_neg fun h => by omega
theorem duties_send_last (h : c.val = 7) : ∀ r, 0 ≤ r → (rd (F := F) m).duties (sendCell c i) r = ∅ := fun r _ => by
  by_cases hr : r = 0
  · subst hr; dsimp only [rd]; rw [if_pos ⟨rfl, rfl⟩, dec_send]; exact if_pos h
  · exact duties_later m _ r (by omega)
theorem duties_recv_first (h : c.val = 0) : ∀ r, 0 ≤ r → (rd (F := F) m).duties (recvCell c i) r = ∅ := fun r _ => by
  by_cases hr : r = 0
  · subst hr; dsimp only [rd]; rw [if_pos ⟨rfl, rfl⟩, dec_recv]; exact if_pos h
  · exact duties_later m _ r (by omega)

theorem amount_bar (d : Bool) : (rd (F := F) m).amount (barCell c) 0 d = 1 := by dsimp only [rd]; exact if_pos dec_bar
theorem amount_send (d : Bool) : (rd (F := F) m).amount (sendCell c i) 0 d = N := by
  dsimp only [rd]; rw [dec_send]; exact if_neg (fun h => nomatch h)
theorem amount_recv (d : Bool) : (rd (F := F) m).amount (recvCell c i) 0 d = N := by
  dsimp only [rd]; rw [dec_recv]; exact if_neg (fun h => nomatch h)

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send (h : c.val ≠ 7) : (rd (F := F) m).expect (sendCell c i) 0 = N := by
  unfold Schedule.expect Schedule.amountOf; rw [duties_send m c i h, Finset.sum_singleton, amount_send]
theorem expect_recv (h : c.val ≠ 0) : (rd (F := F) m).expect (recvCell c i) 0 = N := by
  unfold Schedule.expect Schedule.amountOf; rw [duties_recv m c i h, Finset.sum_singleton, amount_recv]

theorem payload_bar_true : (rd (F := F) m).payload (barCell c) 0 true = barPay c := by dsimp only [rd]; rw [dec_bar]; rfl
theorem payload_bar_false : (rd (F := F) m).payload (barCell c) 0 false = iprop(emp) := by dsimp only [rd]; rw [dec_bar]; rfl
theorem payload_send (d : Bool) : (rd (F := F) m).payload (sendCell c i) 0 d = sendPay m c i := by dsimp only [rd]; rw [dec_send]
theorem payload_recv (d : Bool) : (rd (F := F) m).payload (recvCell c i) 0 d = recvPay m c i := by dsimp only [rd]; rw [dec_recv]

/-- What the barrier's wait hands over: nothing from the device before, the next device's buffer from the one after. -/
theorem rest_bar : bigSep ((rd (F := F) m).duties (barCell c) 0 \ ∅) (fun d => (rd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send (h : c.val ≠ 7) : bigSep ((rd (F := F) m).duties (sendCell c i) 0 \ ∅) (fun d => (rd (F := F) m).payload (sendCell c i) 0 d) = sendPay m c i := by
  rw [Finset.sdiff_empty, duties_send m c i h, bigSep_singleton, payload_send]
theorem rest_recv (h : c.val ≠ 0) : bigSep ((rd (F := F) m).duties (recvCell c i) 0 \ ∅) (fun d => (rd (F := F) m).payload (recvCell c i) 0 d) = recvPay m c i := by
  rw [Finset.sdiff_empty, duties_recv m c i h, bigSep_singleton, payload_recv]

end Sched

/-! ## What a device owes, and the levels -/

/-- What device `c` still owes with `s` chunks sent: the next device's receive cells of the chunks from `s` on. -/
def Osend (c : Dev nD) (s : ℕ) : CellTallies nD τ sig Unit :=
  if c.val = 7 then 0 else ∑ i ∈ (Finset.univ : Finset (Fin 8)).filter (fun i => s ≤ i.val), tallyAt (recvCell (nxt c) i) () N
def O₁ (c : Dev nD) : CellTallies nD τ sig Unit := Osend c 0 + tallyAt (barCell (nxt c)) () 1
def O₀ (c : Dev nD) : CellTallies nD τ sig Unit := O₁ c + tallyAt (barCell (prv c)) () 1

theorem Osend_step (c : Dev nD) (h : c.val ≠ 7) (s : ℕ) (hs : s < 8) :
    Osend c s = Osend c (s + 1) + tallyAt (recvCell (nxt c) ⟨s, hs⟩) () N := by
  unfold Osend
  rw [if_neg h, if_neg h]
  have : (Finset.univ : Finset (Fin 8)).filter (fun i => s ≤ i.val)
      = insert ⟨s, hs⟩ ((Finset.univ : Finset (Fin 8)).filter (fun i => s + 1 ≤ i.val)) := by
    ext i
    simp only [Finset.mem_filter, Finset.mem_univ, true_and, Finset.mem_insert, Fin.ext_iff]
    omega
  rw [this, Finset.sum_insert (by simp), add_comm]

theorem Osend_last (c : Dev nD) (h : c.val = 7) (s : ℕ) : Osend c s = 0 := if_pos h
theorem Osend_done (c : Dev nD) : Osend c 8 = 0 := by
  unfold Osend
  split
  · rfl
  · refine Finset.sum_eq_zero fun i hi => ?_
    have := i.isLt
    simp at hi; omega

def L (g : GSem nD τ sig) : Finset Unit := if g.1.2 = .tc then {()} else ∅
/-- Barrier cells at 1, device `c`'s receive cells at `2 + c`, every other cell at 0. -/
def lv (g : GSem nD τ sig) (_ : Unit) : ℕ :=
  match dec g.2 with
  | some none => 1
  | some (some (true, _)) => 2 + g.1.1.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [dec_bar]
theorem lv_recv (c : Dev nD) (i : Fin 8) (u : Unit) : lv (recvCell c i) u = 2 + c.val := by dsimp only [lv]; rw [dec_recv]
theorem lv_send (c : Dev nD) (i : Fin 8) (u : Unit) : lv (sendCell c i) u = 0 := by dsimp only [lv]; rw [dec_send]

theorem Osend_pos {c : Dev nD} {s : ℕ} {g : GSem nD τ sig} {u : Unit} (h : 0 < Osend c s g u) :
    c.val ≠ 7 ∧ ∃ i, g = recvCell (nxt c) i := by
  unfold Osend at h
  split at h
  · exact absurd h (Nat.lt_irrefl 0)
  · rename_i h7
    refine ⟨h7, ?_⟩
    by_contra hn
    have : (∑ i ∈ (Finset.univ : Finset (Fin 8)).filter (fun i => s ≤ i.val), tallyAt (recvCell (nxt c) i) () N) g u = 0 := by
      rw [Finset.sum_apply, Finsupp.finset_sum_apply]
      refine Finset.sum_eq_zero fun i _ => ?_
      rw [tallyAt_apply]
      exact if_neg fun h' => hn ⟨i, h'.1⟩
    rw [this] at h
    exact absurd h (Nat.lt_irrefl 0)

theorem O₀_pos {c : Dev nD} {g : GSem nD τ sig} {u : Unit} (h : 0 < O₀ c g u) :
    (c.val ≠ 7 ∧ ∃ i, g = recvCell (nxt c) i) ∨ g = barCell (prv c) ∨ g = barCell (nxt c) := by
  unfold O₀ O₁ at h
  rw [Pi.add_apply, Finsupp.add_apply, Pi.add_apply, Finsupp.add_apply, tallyAt_apply, tallyAt_apply] at h
  by_contra hn
  rw [not_or, not_or] at hn
  have h0 : Osend c 0 g u = 0 := by
    by_contra h'
    exact hn.1 (Osend_pos (Nat.pos_of_ne_zero h'))
  rw [h0, if_neg (fun h' => hn.2.2 h'.1), if_neg (fun h' => hn.2.1 h'.1)] at h
  exact Nat.lt_irrefl 0 h

theorem nxt_val (c : Dev nD) (h : c.val ≠ 7) : (nxt c).val = c.val + 1 := by
  have := c.isLt
  show (c.val + 1) % 8 = _
  have h8 : c.val < 8 := c.isLt
  omega

omit [FloatOps F] [Named F] in
/-- A device may wait on a cell at level at most `2 + c` whatever chunks it still owes: those cells lie at `3 + c`. -/
theorem mayWait_send (c : Dev nD) (sm : SemLoc sig) (s : ℕ) (h : lv ((c : Thread nD τ), sm) () ≤ 2 + c.val) :
    (levAts L lv : sProp 𝕄) ⊢ MayWait (c : Thread nD τ) sm () (Osend c s) :=
  MayOwe.of_cut (L := L) (lev := lv) (2 + c.val) (fun p hp => by rw [Finset.mem_singleton.mp hp, L_tc]; exact Finset.mem_singleton_self _)
    (fun g u hg => by obtain ⟨-, i, rfl⟩ := Osend_pos hg; exact Finset.mem_singleton_self _)
    (fun p hp => by rw [Finset.mem_singleton.mp hp]; exact h)
    (fun g u hg => by obtain ⟨h7, i, rfl⟩ := Osend_pos hg; rw [lv_recv, nxt_val c h7]; omega)

omit [FloatOps F] [Named F] in
/-- The pipeline's own waits, on cells of level 0, come before anything is paid or after everything is. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨-, i, rfl⟩ | rfl | rfl <;> exact Finset.mem_singleton_self _)
      (fun p hp => by rw [Finset.mem_singleton.mp hp]; dsimp only [lv]; rw [dec_none _ hq])
      (fun g u hg => by
        rcases O₀_pos hg with ⟨-, i, rfl⟩ | rfl | rfl
        · rw [lv_recv]; omega
        · rw [lv_bar]; exact Nat.one_pos
        · rw [lv_bar]; exact Nat.one_pos)
  · rw [MayWait_zero]; iintro -; iempintro

end Cert.RingIdeal

end
-- ==== Proof.Steps.lean ====
/-
  A device's state while its body runs, and one rule per effect that moves it on.
-/
module

public import proofs.«01_k».proof.Proof.Ring

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- A program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- Every cell of every device: its invariant, and that it has reached round 0. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records (F := F) m K) := by
  unfold records; infer_instance

variable (K : Dev nD × CI → ℕ)

theorem records_inv : records m K ⊢ bigSep Finset.univ fun ck : Dev nD × CI => (cellInv ER (rd m) (K ck) (kcell ck) : sProp 𝕄) := by
  unfold records
  iintro ⟨H, -⟩
  iexact H

theorem records_reached : records m K ⊢ bigSep Finset.univ fun ck : Dev nD × CI => (reached ER (kcell ck) 0 : sProp 𝕄) := by
  unfold records
  iintro ⟨-, H⟩
  iexact H

theorem inv_at (ck : Dev nD × CI) : records m K ⊢ cellInv ER (rd m) (K ck) (kcell ck) :=
  (records_inv m K).trans (bigSep_elim (Finset.mem_univ ck))

theorem reached_at (ck : Dev nD × CI) : records m K ⊢ (reached ER (kcell ck) 0 : sProp 𝕄) :=
  (records_reached m K).trans (bigSep_elim (Finset.mem_univ ck))

theorem inv_bar (c : Dev nD) : records m K ⊢ cellInv ER (rd m) (K (c, none)) (barCell c) := inv_at m K (c, none)
theorem inv_send (c : Dev nD) (i : Fin 8) : records m K ⊢ cellInv ER (rd m) (K (c, some (false, i))) (sendCell c i) := inv_at m K (c, some (false, i))
theorem inv_recv (c : Dev nD) (i : Fin 8) : records m K ⊢ cellInv ER (rd m) (K (c, some (true, i))) (recvCell c i) := inv_at m K (c, some (true, i))
theorem reached_bar (c : Dev nD) : records m K ⊢ (reached ER (barCell c) 0 : sProp 𝕄) := reached_at m K (c, none)
theorem reached_send (c : Dev nD) (i : Fin 8) : records m K ⊢ (reached ER (sendCell c i) 0 : sProp 𝕄) := reached_at m K (c, some (false, i))
theorem reached_recv (c : Dev nD) (i : Fin 8) : records m K ⊢ (reached ER (recvCell c i) 0 : sProp 𝕄) := reached_at m K (c, some (true, i))

/-! ## The state -/

/-- Where a chunk is: still awaited, with `v` heads in, on its way to the next device, or its sending complete. -/
inductive Ph where
  | wait | build (v : ℕ) | sent | fin
  deriving DecidableEq

/-- A chunk's phase, by how many heads are in (`g`), chunks arrived (`w`), sent (`s`) and sent completely (`d`). -/
def ph (g w s d i : ℕ) : Ph := if i < d then .fin else if i < s then .sent else if i < w then .build (min 8 (g - 8 * i)) else .wait

/-- The first `v` heads of chunk `i` hold the context. -/
def upTo (i : Fin 8) (v : ℕ) (f : S2x512x512.Idx → F .f32) : Prop :=
  ∀ y : S2x512x512.Idx, (y 0).val = i.val / 4 → (y 1).val / 128 = i.val % 4 → (y 2).val / 64 < v → f y = ctxB m y

/-- What sending chunk `i` takes: the two cells' duties and the next device's chunk. The last device sends nothing. -/
def sendRes (c : Dev nD) (i : Fin 8) : sProp 𝕄 :=
  if c.val = 7 then semVal (sendCell c i) 0 else
    iprop(atPos ER (sendCell c i) 0 ∅ 0 ∗ dutyTok ER (sendCell c i) 0 false ∗ dutyTok ER (recvCell (nxt c) i) 0 false
      ∗ ∃ f, chk (nxt c) i fullShare f)

def chunkSt (c : Dev nD) (i : Fin 8) : Ph → sProp 𝕄
  | .wait => iprop(atPos ER (recvCell c i) 0 ∅ 0 ∗ cred (tallyAt (recvCell c i) () N) ∗ sendRes c i)
  | .build v => iprop((semVal (recvCell c i) 0 ∗ sendRes c i) ∗ ∃ f, ⌜upTo m i v f⌝ ∗ chk c i fullShare f)
  | .sent => iprop((semVal (recvCell c i) 0 ∗ atPos ER (sendCell c i) 0 ∅ 0 ∗ cred (tallyAt (sendCell c i) () N)) ∗ chk c i fullShare.left (ctxB m))
  | .fin => iprop((semVal (recvCell c i) 0 ∗ semVal (sendCell c i) 0) ∗ chk c i fullShare (ctxB m))

/-- The operands' staging buffers. -/
def ins (c : Dev nD) : sProp 𝕄 :=
  iprop((((c : Thread nD τ).loc cc0_stg0_0) ↦{fullShare} (xV m c : Buf (Elt F) ((c : Thread nD τ).loc cc0_stg0_0)))
    ∗ (((c : Thread nD τ).loc cc0_stg1_0) ↦{fullShare} (wqV m c : Buf (Elt F) ((c : Thread nD τ).loc cc0_stg1_0)))
    ∗ (((c : Thread nD τ).loc cc0_stg2_0) ↦{fullShare} (kV m c : Buf (Elt F) ((c : Thread nD τ).loc cc0_stg2_0)))
    ∗ (((c : Thread nD τ).loc cc0_stg3_0) ↦{fullShare} (vV m c : Buf (Elt F) ((c : Thread nD τ).loc cc0_stg3_0)))
    ∗ (((c : Thread nD τ).loc cc0_stg4_0) ↦{fullShare} (woV m c : Buf (Elt F) ((c : Thread nD τ).loc cc0_stg4_0))))

/-- The result's first `p` chunks are in. -/
def outUp (c : Dev nD) (p : ℕ) (f : S2x512x768.Idx → F .f32) : Prop :=
  ∀ y : S2x512x768.Idx, 4 * (y 0).val + (y 1).val / 128 < p → f y = outB m c y
def outSt (c : Dev nD) (p : ℕ) : sProp 𝕄 :=
  iprop(∃ f : S2x512x768.Idx → F .f32, ⌜outUp m c p f⌝ ∗ (((c : Thread nD τ).loc cc0_stg5_0) ↦{fullShare} (f : Buf (Elt F) ((c : Thread nD τ).loc cc0_stg5_0))))

/-- Device `c` with `g` heads in, `w` chunks arrived, `s` sent, `d` sent completely and `p` projected. -/
def St (c : Dev nD) (g w s d p : ℕ) : sProp 𝕄 :=
  iprop(records m K ∗ levAts L lv ∗ (∃ W, owes (c : Thread nD τ) (Osend c s) W) ∗ ins m c ∗ outSt m c p
    ∗ bigSep Finset.univ fun i : Fin 8 => chunkSt m c i (ph g w s d i.val))

/-- One chunk taken out of the eight and put back at another phase. -/
theorem chunks_step (Φ Φ' : Fin 8 → sProp 𝕄) (i : Fin 8) (h : ∀ j, j ≠ i → Φ j = Φ' j) :
    bigSep Finset.univ Φ ⊢ iprop(Φ i ∗ (Φ' i -∗ bigSep Finset.univ Φ')) := by
  have e : bigSep Finset.univ Φ = iprop(Φ i ∗ bigSep (Finset.univ.erase i) Φ) := bigSep_erase (Finset.mem_univ i)
  have e' : bigSep Finset.univ Φ' = iprop(Φ' i ∗ bigSep (Finset.univ.erase i) Φ') := bigSep_erase (Finset.mem_univ i)
  have ee : bigSep (Finset.univ.erase i) Φ = bigSep (Finset.univ.erase i) Φ' :=
    bigSep_congr fun j hj => h j (Finset.ne_of_mem_erase hj)
  rw [e, e', ee]
  iintro ⟨H, Hr⟩
  isplitl [H]; · iexact H
  iintro H'
  isplitl [H']; · iexact H'
  iexact Hr

theorem ph_step {c : Dev nD} {g w s d g' w' s' d' : ℕ} (i : Fin 8) (h : ∀ j : ℕ, j ≠ i.val → ph g w s d j = ph g' w' s' d' j) {a a' : Ph}
    (ha : ph g w s d i.val = a) (ha' : ph g' w' s' d' i.val = a') :
    (bigSep Finset.univ fun i : Fin 8 => chunkSt m c i (ph g w s d i.val))
      ⊢ iprop(chunkSt m c i a ∗ (chunkSt m c i a' -∗ bigSep Finset.univ fun i : Fin 8 => chunkSt m c i (ph g' w' s' d' i.val))) := by
  subst ha ha'
  exact chunks_step (fun i : Fin 8 => chunkSt m c i (ph g w s d i.val)) (fun i : Fin 8 => chunkSt m c i (ph g' w' s' d' i.val)) i
    fun j hj => by rw [h j.val fun h' => hj (Fin.ext h')]

/-! ## Chunks and shares -/

theorem upTo_full {c : Dev nD} {i : Fin 8} {v : ℕ} {f : S2x512x512.Idx → F .f32} (h : upTo m i v f) (hv : 8 ≤ v) (q) :
    (chk c i q f : sProp 𝕄) = chk c i q (ctxB m) :=
  chk_congr c i q fun y h0 h1 => h y h0 h1 (by have h2 : (y 2).val < 512 := (y 2).isLt; omega)

omit [FloatOps F] [Named F] in
theorem chk_halve (c : Dev nD) (i : Fin 8) (f : S2x512x512.Idx → F .f32) :
    (chk c i fullShare f : sProp 𝕄) ⊣⊢ iprop(chk c i fullShare.left f ∗ chk c i fullShare.right f) := by
  unfold chk; exact pointsTo_share (PosShare.mem_left_op_right fullShare)

/-! ## Receiving, sending, completing -/

section Comm

/-- The wait for the next chunk to arrive. -/
theorem st_waitRecv {α : Type} {Q : α → sProp 𝕄} {k : PUnit → Prog (TpuEff nD τ sig (Elt F) Λ₀ .tc) α} (c : Dev nD) (hc : c.val ≠ 0) {g w s d p : ℕ} (hw : w < 8) (hs : s ≤ w) (hd : d ≤ s) (hg : 8 * w + 8 ≤ g)
    {sm : DmaSem sig} {src dst : Memref sig .tc .vmem S128x512 .f32} {h₁ h₂}
    (hsm : sm = (recvS ⟨w, hw⟩).sem) (hdst : dst = chunkM ⟨w, hw⟩) :
    St m K c g w s d p ⊢ iprop((St m K c g (w + 1) s d p -∗ WP c (k ⟨⟩) Q) -∗ WP c (.op (.waitDma2 sm src dst h₁ h₂) k) Q) := by
  subst hsm hdst
  unfold St
  iintro ⟨#HR, #Hlev, ⟨%W, HO⟩, Hin, Hout, Hch⟩ Hk
  ihave Hch := (ph_step m (c := c) (g := g) (w := w) (s := s) (d := d) (g' := g) (w' := w + 1) (s' := s) (d' := d) ⟨w, hw⟩
    (fun j hj => by have : j ≠ w := hj; unfold ph; split_ifs <;> first | rfl | omega)
    (a := .wait) (a' := .build 8) (by unfold ph; dsimp only; split_ifs <;> first | rfl | omega)
    (by unfold ph; dsimp only; split_ifs <;> first | omega | (congr 1; omega))) $$ Hch
  icases Hch with ⟨Hc, Hback⟩
  unfold chunkSt
  icases Hc with ⟨Hat, Hcr, Hsend⟩
  iapply (Rounds.wp_wait_rest_token 𝒱₀ ER (rd m) (c : Thread nD τ) none (κ := K (c, some (true, ⟨w, hw⟩)))
      (wpE_waitDma2_eq 𝒱₀ (c : Thread nD τ) none Set.univ) (Set.mem_univ _) () (O := Osend c s) (W := W) (R := 0) (m := 0) (T := ∅)
      (by rw [Nat.zero_add, expect_recv m c ⟨w, hw⟩ hc])) $$ [Hcr HO Hat]
  · isplitr; · iapply (inv_recv m K c ⟨w, hw⟩); iexact HR
    isplitl [Hcr]; · iexact Hcr
    isplitl [HO]; · iexact HO
    isplitr
    · iapply (mayWait_send c (.dma (recvS ⟨w, hw⟩).sem) s (by rw [lv_recv])); iexact Hlev
    iexact Hat
  iintro ⟨HO, Hat, -, Hpay⟩
  ihave Hpay := (Entails.of_eq (rest_recv m c ⟨w, hw⟩ hc)) $$ Hpay
  unfold recvPay
  imod (Rounds.cell_close ER (rd m) (Set.mem_univ (K (c, some (true, ⟨w, hw⟩)))) (fun h => h) (R := 0 + 1) (duties_later m (recvCell c ⟨w, hw⟩))) $$ [Hat] with Hz
  · isplitr; · iapply (inv_recv m K c ⟨w, hw⟩); iexact HR
    iexact Hat
  iapply Hk
  isplitr; · iexact HR
  isplitr; · iexact Hlev
  isplitl [HO]; · iexists _; iexact HO
  isplitl [Hin]; · iexact Hin
  isplitl [Hout]; · iexact Hout
  iapply Hback
  isplitl [Hz Hsend]
  · isplitl [Hz]; · iexact Hz
    iexact Hsend
  iexists _
  isplitr; · ipureintro; exact fun _ _ _ _ => rfl
  iexact Hpay

theorem build_eq (c : Dev nD) (hc : c.val ≠ 7) (i : Fin 8) (v : ℕ) :
    chunkSt m c i (.build v) = iprop((semVal (recvCell c i) 0 ∗ atPos ER (sendCell c i) 0 ∅ 0 ∗ dutyTok ER (sendCell c i) 0 false
      ∗ dutyTok ER (recvCell (nxt c) i) 0 false ∗ ∃ f, chk (nxt c) i fullShare f) ∗ ∃ f, ⌜upTo m i v f⌝ ∗ chk c i fullShare f) := by
  unfold chunkSt sendRes
  rw [if_neg hc]

/-- The library's rule for a transfer, at a chunk: half of the chunk is lent until the sending is complete. -/
theorem wp_send_chunk {α : Type} {Q : α → sProp 𝕄} {k : PUnit → Prog (TpuEff nD τ sig (Elt F) Λ₀ .tc) α} (c : Dev nD) (hc : c.val ≠ 7)
    (i : Fin 8) {n : Dev nD} (hn : n = nxt c)
    {hsc : (chunkM i : Memref sig (Dev.tc n : Thread nD τ).2.kind .vmem S128x512 .f32).view.ref.isScScratch = false} {h₁ h₂}
    {h₃ : DmaTarget.Typed .vmem (.dma (recvS i).sem) (.remote (Dev.tc n : Thread nD τ) (chunkM i) (.dma (sendS i).sem) hsc)}
    (fn : S2x512x512.Idx → F .f32) (W : Waits sig Unit) :
    iprop(cellInv ER (rd m) (K (c, some (false, i))) (sendCell c i) ∗ cellInv ER (rd m) (K (nxt c, some (true, i))) (recvCell (nxt c) i)
        ∗ chk c i fullShare.right (ctxB m) ∗ chk (nxt c) i fullShare fn
        ∗ owes (c : Thread nD τ) (Osend c i.val) W
        ∗ dutyTok ER (sendCell c i) 0 false ∗ reached ER (sendCell c i) 0
        ∗ dutyTok ER (recvCell (nxt c) i) 0 false ∗ reached ER (recvCell (nxt c) i) 0)
      ⊢ iprop(((cred (tallyAt (sendCell c i) () N) ∗ owes (c : Thread nD τ) (Osend c (i.val + 1)) W) -∗ WP c (k ⟨⟩) Q)
        -∗ WP c (.op (.enqueueDma (chunkM i) (.remote (Dev.tc n : Thread nD τ) (chunkM i) (.dma (sendS i).sem) hsc) (.dma (recvS i).sem) h₁ h₂ h₃) k) Q) := by
  subst hn
  unfold chk
  exact Rounds.wp_send_pointsTo (Q := Q) (k := k) 𝒱₀ ER (rd m) (c : Thread nD τ) none (κ₁ := K (c, some (false, i))) (κ₂ := K (nxt c, some (true, i)))
      (c' := (nxt c : Thread nD τ)) (src := chunkM i) (dst := chunkM i) (sS := .dma (sendS i).sem) (sem := .dma (recvS i).sem)
      (hsc := hsc) (hsrc := h₁) (hdst := h₂) (hsem := h₃) (q := fullShare.right) (fs := ctxB m)
      (r₁ := 0) (r₂ := 0) (d₁ := false) (d₂ := false) (fd := fn)
      (by rw [duties_send m c _ hc]; exact Finset.mem_singleton_self _)
      (by rw [duties_recv m (nxt c) _ (by rw [nxt_val c hc]; exact Nat.succ_ne_zero _)]; exact Finset.mem_singleton_self _)
      () () N rfl (amount_send m c i false) (amount_recv m (nxt c) i false) (O₀ := Osend c i.val) (Osend c (i.val + 1)) (Osend_step c hc i.val i.isLt) (W := W)
      (by rw [payload_send]; unfold sendPay chk; exact BI.Entails.refl _)
      (by
        rw [payload_recv]; unfold recvPay chk
        rw [View.write_read_eq_piecewise]
        refine Entails.of_eq (pointsTo_congr fun y hy => ?_)
        exact Finset.piecewise_eq_of_mem _ _ _ hy)

/-- The transfer of a complete chunk to the next device. -/
theorem st_send {α : Type} {Q : α → sProp 𝕄} {k : PUnit → Prog (TpuEff nD τ sig (Elt F) Λ₀ .tc) α} (c : Dev nD) (hc : c.val ≠ 7) {g w s d p : ℕ} (hs : s < 8) (hw : s < w) (hd : d ≤ s) (hg : 8 * s + 8 ≤ g)
    {n : Dev nD} (hn : n = nxt c) {sS sR : DmaSem sig} {src dst : Memref sig .tc .vmem S128x512 .f32}
    {hsc : (dst : Memref sig (Dev.tc n : Thread nD τ).2.kind .vmem S128x512 .f32).view.ref.isScScratch = false} {h₁ h₂}
    {h₃ : DmaTarget.Typed .vmem (.dma sR) (.remote (Dev.tc n : Thread nD τ) dst (.dma sS) hsc)}
    (hsS : sS = (sendS ⟨s, hs⟩).sem) (hsR : sR = (recvS ⟨s, hs⟩).sem) (hsrc : src = chunkM ⟨s, hs⟩) (hdst : dst = chunkM ⟨s, hs⟩) :
    St m K c g w s d p ⊢ iprop((St m K c g w (s + 1) d p -∗ WP c (k ⟨⟩) Q)
      -∗ WP c (.op (.enqueueDma src (.remote (Dev.tc n : Thread nD τ) dst (.dma sS) hsc) (.dma sR) h₁ h₂ h₃) k) Q) := by
  subst hsS hsR hsrc hdst hn
  unfold St
  iintro ⟨#HR, #Hlev, ⟨%W, HO⟩, Hin, Hout, Hch⟩ Hk
  ihave Hch := (ph_step m (c := c) (g := g) (w := w) (s := s) (d := d) (g' := g) (w' := w) (s' := s + 1) (d' := d) ⟨s, hs⟩
    (fun j hj => by have : j ≠ s := hj; unfold ph; split_ifs <;> first | rfl | omega)
    (a := .build 8) (a' := .sent) (by unfold ph; dsimp only; split_ifs <;> first | omega | (congr 1; omega))
    (by unfold ph; dsimp only; split_ifs <;> first | rfl | omega)) $$ Hch
  icases Hch with ⟨Hc, Hback⟩
  ihave Hc := (Entails.of_eq (build_eq m c hc ⟨s, hs⟩ 8)) $$ Hc
  icases Hc with ⟨⟨Hz, Hat, HtS, HtR, %fn, Hn⟩, %f, %hf, Hf⟩
  ihave Hf := (Entails.of_eq (upTo_full m (c := c) hf (le_refl 8) fullShare)) $$ Hf
  ihave Hf := (chk_halve c ⟨s, hs⟩ (ctxB m)).1 $$ Hf
  icases Hf with ⟨Hl, Hr⟩
  iapply (wp_send_chunk m K c hc ⟨s, hs⟩ rfl fn W) $$ [Hr Hn HO HtS HtR]
  · isplitr; · iapply (inv_send m K c ⟨s, hs⟩); iexact HR
    isplitr; · iapply (inv_recv m K (nxt c) ⟨s, hs⟩); iexact HR
    isplitl [Hr]; · iexact Hr
    isplitl [Hn]; · iexact Hn
    isplitl [HO]; · iexact HO
    isplitl [HtS]; · iexact HtS
    isplitr; · iapply (reached_send m K c ⟨s, hs⟩); iexact HR
    isplitl [HtR]; · iexact HtR
    iapply (reached_recv m K (nxt c) ⟨s, hs⟩); iexact HR
  iintro ⟨Hcr, HO⟩
  iapply Hk
  isplitr; · iexact HR
  isplitr; · iexact Hlev
  isplitl [HO]; · iexists _; iexact HO
  isplitl [Hin]; · iexact Hin
  isplitl [Hout]; · iexact Hout
  iapply Hback
  unfold chunkSt
  isplitl [Hz Hat Hcr]
  · isplitl [Hz]; · iexact Hz
    isplitl [Hat]; · iexact Hat
    iexact Hcr
  iexact Hl

/-- The wait for a chunk's sending to be complete. -/
theorem st_waitSend {α : Type} {Q : α → sProp 𝕄} {k : PUnit → Prog (TpuEff nD τ sig (Elt F) Λ₀ .tc) α} (c : Dev nD) (hc : c.val ≠ 7) {g w s d p : ℕ} (hd : d < 8) (hs : d < s)
    {sm : DmaSem sig} {src dst : Memref sig .tc .vmem S128x512 .f32} {h₁ h₂}
    (hsm : sm = (sendS ⟨d, hd⟩).sem) (hdst : dst = chunkM ⟨d, hd⟩) :
    St m K c g w s d p ⊢ iprop((St m K c g w s (d + 1) p -∗ WP c (k ⟨⟩) Q) -∗ WP c (.op (.waitDma2 sm src dst h₁ h₂) k) Q) := by
  subst hsm hdst
  unfold St
  iintro ⟨#HR, #Hlev, ⟨%W, HO⟩, Hin, Hout, Hch⟩ Hk
  ihave Hch := (ph_step m (c := c) (g := g) (w := w) (s := s) (d := d) (g' := g) (w' := w) (s' := s) (d' := d + 1) ⟨d, hd⟩
    (fun j hj => by have : j ≠ d := hj; unfold ph; split_ifs <;> first | rfl | omega)
    (a := .sent) (a' := .fin) (by unfold ph; dsimp only; split_ifs <;> first | rfl | omega)
    (by unfold ph; dsimp only; split_ifs <;> first | rfl | omega)) $$ Hch
  icases Hch with ⟨Hc, Hback⟩
  unfold chunkSt
  icases Hc with ⟨⟨Hz, Hat, Hcr⟩, Hl⟩
  iapply (Rounds.wp_wait_rest_token 𝒱₀ ER (rd m) (c : Thread nD τ) none (κ := K (c, some (false, ⟨d, hd⟩)))
      (wpE_waitDma2_eq 𝒱₀ (c : Thread nD τ) none Set.univ) (Set.mem_univ _) () (O := Osend c s) (W := W) (R := 0) (m := 0) (T := ∅)
      (by rw [Nat.zero_add, expect_send m c ⟨d, hd⟩ hc])) $$ [Hcr HO Hat]
  · isplitr; · iapply (inv_send m K c ⟨d, hd⟩); iexact HR
    isplitl [Hcr]; · iexact Hcr
    isplitl [HO]; · iexact HO
    isplitr
    · iapply (mayWait_send c (.dma (sendS ⟨d, hd⟩).sem) s (by rw [lv_send]; exact Nat.zero_le _)); iexact Hlev
    iexact Hat
  iintro ⟨HO, Hat, -, Hpay⟩
  ihave Hpay := (Entails.of_eq (rest_send m c ⟨d, hd⟩ hc)) $$ Hpay
  unfold sendPay
  imod (Rounds.cell_close ER (rd m) (Set.mem_univ (K (c, some (false, ⟨d, hd⟩)))) (fun h => h) (R := 0 + 1) (duties_later m (sendCell c ⟨d, hd⟩))) $$ [Hat] with Hz'
  · isplitr; · iapply (inv_send m K c ⟨d, hd⟩); iexact HR
    iexact Hat
  iapply Hk
  isplitr; · iexact HR
  isplitr; · iexact Hlev
  isplitl [HO]; · iexists _; iexact HO
  isplitl [Hin]; · iexact Hin
  isplitl [Hout]; · iexact Hout
  iapply Hback
  isplitl [Hz Hz']
  · isplitl [Hz]; · iexact Hz
    iexact Hz'
  iapply (chk_halve c ⟨d, hd⟩ (ctxB m)).2
  isplitl [Hl]; · iexact Hl
  iexact Hpay

end Comm

/-! ## Loads of the operands -/

section Operands

theorem st_loadX {α : Type} {Q : α → sProp 𝕄} (c : Dev nD) {g w s d p : ℕ} (b : Fin 2) {off : Fin 3 → ℕ} {inb} {hl} {k : Vec F S1x512x768 .f32 → Prog (TpuEff nD τ sig (Elt F) Λ₀ .tc) α}
    (hoff : off = ![b.val, 0, 0]) :
    St m K c g w s d p ⊢ iprop((St m K c g w s d p -∗ WP c (k (xR m c b)) Q)
      -∗ WP c (.op (.load (Memref.whole cc0_stg0_0 : Memref sig .tc .vmem S2x512x768 .f32) (Rect.unit (s := S2x512x768) off S1x512x768.size inb).toLoadRect hl) k) Q) := by
  subst hoff
  unfold St ins
  iintro ⟨#HR, #Hlev, HO, ⟨Hx, Hwq, Hk, Hv, Hwo⟩, Hout, Hch⟩ Hk'
  iapply (wp_load 𝒱₀ (c : Thread nD τ) none Set.univ (m := (Memref.whole cc0_stg0_0 : Memref sig .tc .vmem S2x512x768 .f32)) (Finset.subset_univ _)) $$ Hx; iintro Hx
  iapply Hk'
  isplitr; · iexact HR
  isplitr; · iexact Hlev
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  iexact Hch

theorem st_loadWq {α : Type} {Q : α → sProp 𝕄} (c : Dev nD) {g w s d p : ℕ} {off : Fin 2 → ℕ} {inb} {hl} {k : Vec F S768x512 .f32 → Prog (TpuEff nD τ sig (Elt F) Λ₀ .tc) α}
    (hoff : off = ![0, 0]) :
    St m K c g w s d p ⊢ iprop((St m K c g w s d p -∗ WP c (k (wqR m c)) Q)
      -∗ WP c (.op (.load (Memref.whole cc0_stg1_0 : Memref sig .tc .vmem S768x512 .f32) (Rect.unit (s := S768x512) off S768x512.size inb).toLoadRect hl) k) Q) := by
  subst hoff
  unfold St ins
  iintro ⟨#HR, #Hlev, HO, ⟨Hx, Hwq, Hk, Hv, Hwo⟩, Hout, Hch⟩ Hk'
  iapply (wp_load 𝒱₀ (c : Thread nD τ) none Set.univ (m := (Memref.whole cc0_stg1_0 : Memref sig .tc .vmem S768x512 .f32)) (Finset.subset_univ _)) $$ Hwq; iintro Hwq
  iapply Hk'
  isplitr; · iexact HR
  isplitr; · iexact Hlev
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  iexact Hch

theorem st_loadK {α : Type} {Q : α → sProp 𝕄} (c : Dev nD) {g w s d p : ℕ} (b : Fin 2) {off : Fin 4 → ℕ} {inb} {hl} {k : Vec F S1x512x8x64 .f32 → Prog (TpuEff nD τ sig (Elt F) Λ₀ .tc) α}
    (hoff : off = ![b.val, 0, 0, 0]) :
    St m K c g w s d p ⊢ iprop((St m K c g w s d p -∗ WP c (k (kR m c b)) Q)
      -∗ WP c (.op (.load (Memref.whole cc0_stg2_0 : Memref sig .tc .vmem S2x512x8x64 .f32) (Rect.unit (s := S2x512x8x64) off S1x512x8x64.size inb).toLoadRect hl) k) Q) := by
  subst hoff
  unfold St ins
  iintro ⟨#HR, #Hlev, HO, ⟨Hx, Hwq, Hk, Hv, Hwo⟩, Hout, Hch⟩ Hk'
  iapply (wp_load 𝒱₀ (c : Thread nD τ) none Set.univ (m := (Memref.whole cc0_stg2_0 : Memref sig .tc .vmem S2x512x8x64 .f32)) (Finset.subset_univ _)) $$ Hk; iintro Hk
  iapply Hk'
  isplitr; · iexact HR
  isplitr; · iexact Hlev
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  iexact Hch

theorem st_loadV {α : Type} {Q : α → sProp 𝕄} (c : Dev nD) {g w s d p : ℕ} (b : Fin 2) {off : Fin 4 → ℕ} {inb} {hl} {k : Vec F S1x512x8x64 .f32 → Prog (TpuEff nD τ sig (Elt F) Λ₀ .tc) α}
    (hoff : off = ![b.val, 0, 0, 0]) :
    St m K c g w s d p ⊢ iprop((St m K c g w s d p -∗ WP c (k (vR m c b)) Q)
      -∗ WP c (.op (.load (Memref.whole cc0_stg3_0 : Memref sig .tc .vmem S2x512x8x64 .f32) (Rect.unit (s := S2x512x8x64) off S1x512x8x64.size inb).toLoadRect hl) k) Q) := by
  subst hoff
  unfold St ins
  iintro ⟨#HR, #Hlev, HO, ⟨Hx, Hwq, Hk, Hv, Hwo⟩, Hout, Hch⟩ Hk'
  iapply (wp_load 𝒱₀ (c : Thread nD τ) none Set.univ (m := (Memref.whole cc0_stg3_0 : Memref sig .tc .vmem S2x512x8x64 .f32)) (Finset.subset_univ _)) $$ Hv; iintro Hv
  iapply Hk'
  isplitr; · iexact HR
  isplitr; · iexact Hlev
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  iexact Hch

theorem st_loadWo {α : Type} {Q : α → sProp 𝕄} (c : Dev nD) {g w s d p : ℕ} {off : Fin 2 → ℕ} {inb} {hl} {k : Vec F S512x768 .f32 → Prog (TpuEff nD τ sig (Elt F) Λ₀ .tc) α}
    (hoff : off = ![0, 0]) :
    St m K c g w s d p ⊢ iprop((St m K c g w s d p -∗ WP c (k (woR m c)) Q)
      -∗ WP c (.op (.load (Memref.whole cc0_stg4_0 : Memref sig .tc .vmem S512x768 .f32) (Rect.unit (s := S512x768) off S512x768.size inb).toLoadRect hl) k) Q) := by
  subst hoff
  unfold St ins
  iintro ⟨#HR, #Hlev, HO, ⟨Hx, Hwq, Hk, Hv, Hwo⟩, Hout, Hch⟩ Hk'
  iapply (wp_load 𝒱₀ (c : Thread nD τ) none Set.univ (m := (Memref.whole cc0_stg4_0 : Memref sig .tc .vmem S512x768 .f32)) (Finset.subset_univ _)) $$ Hwo; iintro Hwo
  iapply Hk'
  isplitr; · iexact HR
  isplitr; · iexact Hlev
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  iexact Hch

end Operands

/-! ## The context buffer: filling a head, reading a chunk -/

section Context

theorem inbH (i h : Fin 8) : ∀ a, (![i.val / 4, 128 * (i.val % 4), 64 * h.val] : Fin 3 → ℕ) a + S1x128x64.size a ≤ S2x512x512.size a := by
  revert i h; decide

/-- The part of the context buffer that head `h` of chunk `i` fills. -/
abbrev hRect (i h : Fin 8) : Rect S2x512x512 := Rect.unit (s := S2x512x512) ![i.val / 4, 128 * (i.val % 4), 64 * h.val] S1x128x64.size (inbH i h)

theorem mem_hRect {i h : Fin 8} {y : S2x512x512.Idx} :
    y ∈ (hRect i h).set ↔ (y 0).val = i.val / 4 ∧ (y 1).val / 128 = i.val % 4 ∧ (y 2).val / 64 = h.val := by
  rw [Rect.mem_set_unit]
  have h2 : (y 2).val < 512 := (y 2).isLt
  constructor
  · intro h
    have h0 := h 0
    have h1 := h 1
    have h2 := h 2
    simp at h0 h1 h2
    omega
  · rintro ⟨h0, h1, h2⟩ a
    fin_cases a <;> simp <;> omega

theorem hRect_sub (i h : Fin 8) : (cM.access (hRect i h)).set ⊆ (chunkM i).view.set := by
  have e : (cM.access (hRect i h)).set = (hRect i h).set := View.set_slice_whole _ _
  rw [chunk_set, e]
  intro y hy
  exact mem_cset.mpr ⟨(mem_hRect.mp hy).1, (mem_hRect.mp hy).2.1⟩

/-- Head `h` of chunk `i`, as its store writes it. -/
def headP (i h : Fin 8) : FVec F S1x128x64 .f32 :=
  headV m ⟨i.val / 4, by omega⟩ ⟨i.val % 4, Nat.mod_lt _ (by decide)⟩ h

/-- Storing head `v` of chunk `i` over a chunk with `v` heads in leaves `v + 1` in. -/
theorem upTo_store (i v : Fin 8) {f : S2x512x512.Idx → F .f32} (hf : upTo m i v.val f) :
    upTo m i (v.val + 1) ((cM.access (hRect i v)).write (Elt F) f (headP m i v) Finset.univ) := by
  intro y h0 h1 h2
  by_cases hv : (y 2).val / 64 < v.val
  · refine Eq.trans (View.write_of_not_mem (v := cM.access (hRect i v)) (Val := Elt F) f (headP m i v) Finset.univ ?_) (hf y h0 h1 hv)
    intro hy
    have e : (cM.access (hRect i v)).setOn Finset.univ = (hRect i v).set := View.set_slice_whole _ _
    rw [e] at hy
    have := (mem_hRect.mp hy).2.2
    omega
  · have hv' : (y 2).val / 64 = v.val := by omega
    have hy : y = (cM.access (hRect i v)).emb (headIx y) := by
      funext a
      refine Fin.ext ?_
      fin_cases a
      · show (y 0).val = i.val / 4 + 1 * 0
        omega
      · show (y 1).val = 128 * (i.val % 4) + 1 * ((y 1).val % 128)
        omega
      · show (y 2).val = 64 * v.val + 1 * ((y 2).val % 64)
        omega
    have hw : (cM.access (hRect i v)).write (Elt F) f (headP m i v) Finset.univ ((cM.access (hRect i v)).emb (headIx y)) = headP m i v (headIx y) :=
      View.write_emb_of_mem (v := cM.access (hRect i v)) (Val := Elt F) f (headP m i v) (Finset.mem_univ _)
    refine (congrArg ((cM.access (hRect i v)).write (Elt F) f (headP m i v) Finset.univ) hy).trans (hw.trans ?_)
    unfold headP ctxB
    have e0 : (⟨i.val / 4, by omega⟩ : Fin 2) = y 0 := Fin.ext h0.symm
    have e1 : (⟨i.val % 4, Nat.mod_lt _ (by decide)⟩ : Fin 4) = ⟨(y 1).val / 128, by have h : (y 1).val < 512 := (y 1).isLt; omega⟩ := Fin.ext h1.symm
    have e2 : v = ⟨(y 2).val / 64, by have h : (y 2).val < 512 := (y 2).isLt; omega⟩ := Fin.ext hv'.symm
    rw [e0, e1]
    exact congrFun (congrArg (headV m (y 0) _) e2) (headIx y)

/-- The load before a head's store, of what nobody uses. -/
theorem st_headLoadAt {α : Type} {Q : α → sProp 𝕄} (c : Dev nD) {g w s d p : ℕ} (i v : Fin 8) (hg : g = 8 * i.val + v.val) (hw : i.val < w) (hs : s ≤ i.val) (hd : d ≤ s)
    {off : Fin 3 → ℕ} {inb} {hl} {k : Vec F S1x128x64 .f32 → Prog (TpuEff nD τ sig (Elt F) Λ₀ .tc) α}
    (hoff : off = ![i.val / 4, 128 * (i.val % 4), 64 * v.val]) :
    St m K c g w s d p ⊢ iprop((∀ x, St m K c g w s d p -∗ WP c (k x) Q)
      -∗ WP c (.op (.load cM (Rect.unit (s := S2x512x512) off S1x128x64.size inb).toLoadRect hl) k) Q) := by
  subst hoff
  unfold St
  iintro ⟨#HR, #Hlev, HO, Hin, Hout, Hch⟩ Hk
  have hv := v.isLt
  ihave Hch := (ph_step m (c := c) (g := g) (w := w) (s := s) (d := d) (g' := g) (w' := w) (s' := s) (d' := d) i
    (fun j hj => rfl)
    (a := .build v.val) (a' := .build v.val) (by unfold ph; split_ifs <;> first | omega | (congr 1; omega))
    (by unfold ph; split_ifs <;> first | omega | (congr 1; omega))) $$ Hch
  icases Hch with ⟨Hc, Hback⟩
  unfold chunkSt
  icases Hc with ⟨Hz, %f, %hf, Hf⟩
  unfold chk
  iapply (wp_load_rect 𝒱₀ (c : Thread nD τ) none Set.univ (m := cM) (r := hRect i v) (hRect_sub i v)) $$ Hf
  iintro Hf
  iapply Hk
  isplitr; · iexact HR
  isplitr; · iexact Hlev
  isplitl [HO]; · iexact HO
  isplitl [Hin]; · iexact Hin
  isplitl [Hout]; · iexact Hout
  iapply Hback
  isplitl [Hz]; · iexact Hz
  iexists f
  isplitr; · ipureintro; exact hf
  iexact Hf

/-- A head's store. -/
theorem st_headStoreAt {α : Type} {Q : α → sProp 𝕄} (c : Dev nD) {g w s d p : ℕ} (i v : Fin 8) (hg : g = 8 * i.val + v.val) (hw : i.val < w) (hs : s ≤ i.val) (hd : d ≤ s)
    {off : Fin 3 → ℕ} {inb} {hx} {hm} {x : FVec F S1x128x64 .f32} {k : PUnit → Prog (TpuEff nD τ sig (Elt F) Λ₀ .tc) α}
    (hoff : off = ![i.val / 4, 128 * (i.val % 4), 64 * v.val]) (hpay : x = headP m i v) :
    St m K c g w s d p ⊢ iprop((St m K c (g + 1) w s d p -∗ WP c (k ⟨⟩) Q)
      -∗ WP c (.op (.store cM (Rect.unit (s := S2x512x512) off S1x128x64.size inb) x Finset.univ hx hm) k) Q) := by
  subst hoff hpay
  unfold St
  iintro ⟨#HR, #Hlev, HO, Hin, Hout, Hch⟩ Hk
  have hv := v.isLt
  ihave Hch := (ph_step m (c := c) (g := g) (w := w) (s := s) (d := d) (g' := g + 1) (w' := w) (s' := s) (d' := d) i
    (fun j hj => by have : j ≠ i.val := hj; unfold ph; split_ifs <;> first | rfl | (congr 1; omega))
    (a := .build v.val) (a' := .build (v.val + 1)) (by unfold ph; split_ifs <;> first | omega | (congr 1; omega))
    (by unfold ph; split_ifs <;> first | omega | (congr 1; omega))) $$ Hch
  icases Hch with ⟨Hc, Hback⟩
  unfold chunkSt
  icases Hc with ⟨Hz, %f, %hf, Hf⟩
  unfold chk
  iapply (wp_store 𝒱₀ (c : Thread nD τ) none Set.univ (m := cM) (r := hRect i v) (Mk := Finset.univ) (hRect_sub i v)) $$ Hf
  iintro Hf
  iapply Hk
  isplitr; · iexact HR
  isplitr; · iexact Hlev
  isplitl [HO]; · iexact HO
  isplitl [Hin]; · iexact Hin
  isplitl [Hout]; · iexact Hout
  iapply Hback
  isplitl [Hz]; · iexact Hz
  iexists _
  isplitr; · ipureintro; exact upTo_store m i v hf
  iexact Hf

/-- The two, with the head and its chunk read off the number of heads in. -/
theorem st_headLoad {α : Type} {Q : α → sProp 𝕄} (c : Dev nD) {g w s d p : ℕ} (hg : g < 64) (hw : g / 8 < w) (hs : s ≤ g / 8) (hd : d ≤ s)
    {off : Fin 3 → ℕ} {inb} {hl} {k : Vec F S1x128x64 .f32 → Prog (TpuEff nD τ sig (Elt F) Λ₀ .tc) α}
    (hoff : off = ![g / 8 / 4, 128 * (g / 8 % 4), 64 * (g % 8)]) :
    St m K c g w s d p ⊢ iprop((∀ x, St m K c g w s d p -∗ WP c (k x) Q)
      -∗ WP c (.op (.load cM (Rect.unit (s := S2x512x512) off S1x128x64.size inb).toLoadRect hl) k) Q) :=
  st_headLoadAt m K c ⟨g / 8, by omega⟩ ⟨g % 8, by omega⟩ (Nat.div_add_mod g 8).symm hw hs hd hoff

theorem st_headStore {α : Type} {Q : α → sProp 𝕄} (c : Dev nD) {g w s d p : ℕ} (hg : g < 64) (hw : g / 8 < w) (hs : s ≤ g / 8) (hd : d ≤ s)
    {off : Fin 3 → ℕ} {inb} {hx} {hm} {x : FVec F S1x128x64 .f32} {k : PUnit → Prog (TpuEff nD τ sig (Elt F) Λ₀ .tc) α}
    (hoff : off = ![g / 8 / 4, 128 * (g / 8 % 4), 64 * (g % 8)]) (hpay : x = headP m ⟨g / 8, by omega⟩ ⟨g % 8, by omega⟩) :
    St m K c g w s d p ⊢ iprop((St m K c (g + 1) w s d p -∗ WP c (k ⟨⟩) Q)
      -∗ WP c (.op (.store cM (Rect.unit (s := S2x512x512) off S1x128x64.size inb) x Finset.univ hx hm) k) Q) :=
  st_headStoreAt m K c ⟨g / 8, by omega⟩ ⟨g % 8, by omega⟩ (Nat.div_add_mod g 8).symm hw hs hd hoff hpay

theorem cRect_sub (i : Fin 8) : (cM.access (cRect i)).set ⊆ (chunkM i).view.set := by
  have e : (cM.access (cRect i)).set = (cRect i).set := View.set_slice_whole _ _
  rw [chunk_set, e]

/-- A complete chunk in the state: the chunk at some share, which goes back. -/
theorem chunkSt_ctx (c : Dev nD) (i : Fin 8) {a : Ph} (ha : a = .sent ∨ a = .build 8) :
    chunkSt m c i a ⊢ iprop(∃ q, chk c i q (ctxB m) ∗ (chk c i q (ctxB m) -∗ chunkSt m c i a)) := by
  rcases ha with rfl | rfl
  · show iprop((semVal (recvCell c i) 0 ∗ atPos ER (sendCell c i) 0 ∅ 0 ∗ cred (tallyAt (sendCell c i) () N)) ∗ chk c i fullShare.left (ctxB m)) ⊢
      iprop(∃ q, chk c i q (ctxB m) ∗ (chk c i q (ctxB m) -∗
        (semVal (recvCell c i) 0 ∗ atPos ER (sendCell c i) 0 ∅ 0 ∗ cred (tallyAt (sendCell c i) () N)) ∗ chk c i fullShare.left (ctxB m)))
    iintro ⟨Hr, Hc⟩
    iexists fullShare.left
    isplitl [Hc]; · iexact Hc
    iintro Hc
    isplitl [Hr]; · iexact Hr
    iexact Hc
  · show iprop((semVal (recvCell c i) 0 ∗ sendRes c i) ∗ ∃ f, ⌜upTo m i 8 f⌝ ∗ chk c i fullShare f) ⊢
      iprop(∃ q, chk c i q (ctxB m) ∗ (chk c i q (ctxB m) -∗ (semVal (recvCell c i) 0 ∗ sendRes c i) ∗ ∃ f, ⌜upTo m i 8 f⌝ ∗ chk c i fullShare f))
    iintro ⟨Hr, %f, %hf, Hc⟩
    iexists fullShare
    isplitl [Hc]
    · iapply (Entails.of_eq (upTo_full m (c := c) hf (le_refl 8) fullShare)); iexact Hc
    iintro Hc
    isplitl [Hr]; · iexact Hr
    iexists ctxB m
    isplitr; · ipureintro; exact fun _ _ _ _ => rfl
    iexact Hc

/-- The load of a complete chunk. -/
theorem st_ctxLoad {α : Type} {Q : α → sProp 𝕄} (c : Dev nD) {g w s d p : ℕ} (hp : p < 8) (ha : ph g w s d p = .sent ∨ ph g w s d p = .build 8)
    {off : Fin 3 → ℕ} {inb} {hl} {k : Vec F S1x128x512 .f32 → Prog (TpuEff nD τ sig (Elt F) Λ₀ .tc) α}
    (hoff : off = ![p / 4, 128 * (p % 4), 0]) :
    St m K c g w s d p ⊢ iprop((St m K c g w s d p -∗ WP c (k (ctxC m ⟨p, hp⟩)) Q)
      -∗ WP c (.op (.load cM (Rect.unit (s := S2x512x512) off S1x128x512.size inb).toLoadRect hl) k) Q) := by
  subst hoff
  unfold St
  iintro ⟨#HR, #Hlev, HO, Hin, Hout, Hch⟩ Hk
  ihave Hch := (ph_step m (c := c) (g := g) (w := w) (s := s) (d := d) (g' := g) (w' := w) (s' := s) (d' := d) ⟨p, hp⟩
    (fun j hj => rfl) rfl rfl) $$ Hch
  icases Hch with ⟨Hc, Hback⟩
  ihave Hc := (chunkSt_ctx m c ⟨p, hp⟩ (a := ph g w s d p) ha) $$ Hc
  icases Hc with ⟨%q, Hf, Hc⟩
  unfold chk
  iapply (wp_load_rect 𝒱₀ (c : Thread nD τ) none Set.univ (m := cM) (r := cRect ⟨p, hp⟩) (cRect_sub ⟨p, hp⟩)) $$ Hf
  iintro Hf
  iapply Hk
  isplitr; · iexact HR
  isplitr; · iexact Hlev
  isplitl [HO]; · iexact HO
  isplitl [Hin]; · iexact Hin
  isplitl [Hout]; · iexact Hout
  iapply Hback
  iapply Hc
  iexact Hf

end Context

/-! ## The result -/

section Result

abbrev oM : Memref sig .tc .vmem S2x512x768 .f32 := Memref.whole cc0_stg5_0

theorem inbO (i : Fin 8) : ∀ a, (![i.val / 4, 128 * (i.val % 4), 0] : Fin 3 → ℕ) a + S1x128x768.size a ≤ S2x512x768.size a := by
  revert i; decide

/-- The part of the result that chunk `i` fills. -/
abbrev oRect (i : Fin 8) : Rect S2x512x768 := Rect.unit (s := S2x512x768) ![i.val / 4, 128 * (i.val % 4), 0] S1x128x768.size (inbO i)

theorem mem_oRect {i : Fin 8} {y : S2x512x768.Idx} :
    y ∈ (oRect i).set ↔ 4 * (y 0).val + (y 1).val / 128 = i.val := by
  rw [Rect.mem_set_unit]
  have hy0 : (y 0).val < 2 := (y 0).isLt
  have hy1 : (y 1).val < 512 := (y 1).isLt
  have hy2 : (y 2).val < 768 := (y 2).isLt
  have := i.isLt
  constructor
  · intro h
    have h0 := h 0
    have h1 := h 1
    simp at h0 h1
    omega
  · intro h a
    fin_cases a <;> simp <;> omega

/-- Storing chunk `i`'s projection over a result with the chunks before in. -/
theorem outUp_store (c : Dev nD) (i : Fin 8) {f : S2x512x768.Idx → F .f32} (hf : outUp m c i.val f) :
    outUp m c (i.val + 1) ((oM.access (oRect i)).write (Elt F) f (k0_pay1 (ctxC m i) (woR m c)) Finset.univ) := by
  intro y hy
  by_cases hv : 4 * (y 0).val + (y 1).val / 128 < i.val
  · refine Eq.trans (View.write_of_not_mem (v := oM.access (oRect i)) (Val := Elt F) f (k0_pay1 (ctxC m i) (woR m c)) Finset.univ ?_) (hf y hv)
    intro hy'
    have e : (oM.access (oRect i)).setOn Finset.univ = (oRect i).set := View.set_slice_whole _ _
    rw [e] at hy'
    have := mem_oRect.mp hy'
    omega
  · have hv' : i.val = 4 * (y 0).val + (y 1).val / 128 := by omega
    have hy1 : (y 1).val < 512 := (y 1).isLt
    have hy0 : y = (oM.access (oRect i)).emb (projIx y) := by
      funext a
      refine Fin.ext ?_
      fin_cases a
      · show (y 0).val = i.val / 4 + 1 * 0
        omega
      · show (y 1).val = 128 * (i.val % 4) + 1 * ((y 1).val % 128)
        omega
      · show (y 2).val = 0 + 1 * (y 2).val
        omega
    have hw : (oM.access (oRect i)).write (Elt F) f (k0_pay1 (ctxC m i) (woR m c)) Finset.univ ((oM.access (oRect i)).emb (projIx y)) = k0_pay1 (ctxC m i) (woR m c) (projIx y) :=
      View.write_emb_of_mem (v := oM.access (oRect i)) (Val := Elt F) f (k0_pay1 (ctxC m i) (woR m c)) (Finset.mem_univ _)
    refine (congrArg ((oM.access (oRect i)).write (Elt F) f (k0_pay1 (ctxC m i) (woR m c)) Finset.univ) hy0).trans (hw.trans ?_)
    unfold outB
    have e2 : i = ⟨4 * (y 0).val + (y 1).val / 128, by have := i.isLt; omega⟩ := Fin.ext hv'
    exact congrFun (congrArg (fun j => k0_pay1 (ctxC m j) (woR m c)) e2) (projIx y)

/-- The load before a projection's store, of what nobody uses. -/
theorem st_outLoad {α : Type} {Q : α → sProp 𝕄} (c : Dev nD) {g w s d p : ℕ}
    {off : Fin 3 → ℕ} {inb} {hl} {k : Vec F S1x128x768 .f32 → Prog (TpuEff nD τ sig (Elt F) Λ₀ .tc) α} :
    St m K c g w s d p ⊢ iprop((∀ x, St m K c g w s d p -∗ WP c (k x) Q)
      -∗ WP c (.op (.load oM (Rect.unit (s := S2x512x768) off S1x128x768.size inb).toLoadRect hl) k) Q) := by
  unfold St outSt
  iintro ⟨#HR, #Hlev, HO, Hin, ⟨%f, %hf, Hf⟩, Hch⟩ Hk
  iapply (wp_load 𝒱₀ (c : Thread nD τ) none Set.univ (m := oM) (Finset.subset_univ _)) $$ Hf
  iintro Hf
  iapply Hk
  isplitr; · iexact HR
  isplitr; · iexact Hlev
  isplitl [HO]; · iexact HO
  isplitl [Hin]; · iexact Hin
  isplitl [Hf]
  · iexists f
    isplitr; · ipureintro; exact hf
    iexact Hf
  iexact Hch

/-- A projection's store. -/
theorem st_outStore {α : Type} {Q : α → sProp 𝕄} (c : Dev nD) {g w s d p : ℕ} (hp : p < 8)
    {off : Fin 3 → ℕ} {inb} {hx} {hm} {x : FVec F S1x128x768 .f32} {k : PUnit → Prog (TpuEff nD τ sig (Elt F) Λ₀ .tc) α}
    (hoff : off = ![p / 4, 128 * (p % 4), 0]) (hpay : x = k0_pay1 (ctxC m ⟨p, hp⟩) (woR m c)) :
    St m K c g w s d p ⊢ iprop((St m K c g w s d (p + 1) -∗ WP c (k ⟨⟩) Q)
      -∗ WP c (.op (.store oM (Rect.unit (s := S2x512x768) off S1x128x768.size inb) x Finset.univ hx hm) k) Q) := by
  subst hoff hpay
  unfold St outSt
  iintro ⟨#HR, #Hlev, HO, Hin, ⟨%f, %hf, Hf⟩, Hch⟩ Hk
  iapply (wp_store 𝒱₀ (c : Thread nD τ) none Set.univ (m := oM) (r := oRect ⟨p, hp⟩) (Mk := Finset.univ) (Finset.subset_univ _)) $$ Hf
  iintro Hf
  iapply Hk
  isplitr; · iexact HR
  isplitr; · iexact Hlev
  isplitl [HO]; · iexact HO
  isplitl [Hin]; · iexact Hin
  isplitl [Hf]
  · iexists _
    isplitr; · ipureintro; exact outUp_store m c ⟨p, hp⟩ hf
    iexact Hf
  iexact Hch

end Result

end Cert.RingIdeal

end
-- ==== Proof.Bar.lean ====
/-
  The start of a device's body: the two signals to its neighbours, the wait for both of theirs, and the state that comes of it.
-/
module

public import proofs.«01_k».proof.Proof.Steps
public import proofs.«01_k».proof.Proof.Gen.KernelIdeal.Skeleton

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

/-- What a device holds of chunk `i`'s two cells at launch: its place at both, the duties its transfer pays, and, if a chunk
    will arrive, the credit for it. -/
def chunkRes (c : Dev nD) (i : Fin 8) : sProp 𝕄 :=
  iprop(atPos ER (recvCell c i) 0 ∅ 0 ∗ (if c.val = 0 then iprop(emp) else cred (tallyAt (recvCell c i) () N))
    ∗ atPos ER (sendCell c i) 0 ∅ 0 ∗ dutyTok ER (sendCell c i) 0 false ∗ dutyTok ER (recvCell (nxt c) i) 0 false)

/-- What a device holds before its first signal. -/
def Pre (c : Dev nD) : sProp 𝕄 :=
  iprop(records m K ∗ levAts L lv ∗ (∃ W, owes (c : Thread nD τ) (O₀ c) W) ∗ ins m c ∗ outSt m c 0
    ∗ (bigSep Finset.univ fun i : Fin 8 => iprop(∃ f, chk c i fullShare f))
    ∗ (atPos ER (barCell c) 0 ∅ 0 ∗ cred (tallyAt (barCell c) () 2) ∗ dutyTok ER (barCell (nxt c)) 0 false ∗ dutyTok ER (barCell (prv c)) 0 true)
    ∗ bigSep Finset.univ fun i : Fin 8 => chunkRes c i)

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

theorem prv_val (c : Dev nD) : (prv c).val = 7 ↔ c.val = 0 := by revert c; decide

/-- The chunk a device keeps: only the first device fills its own buffer, every other one hands it to the device before. -/
def own (c : Dev nD) (i : Fin 8) : sProp 𝕄 := if c.val = 0 then iprop(∃ f, chk c i fullShare f) else iprop(emp)
def gain (c : Dev nD) (i : Fin 8) : sProp 𝕄 := if c.val = 7 then iprop(emp) else iprop(∃ f, chk (nxt c) i fullShare f)

omit [FloatOps F] [Named F] in
/-- Something persistent goes to every summand. -/
theorem to_each {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have e : bigSep S (fun i => iprop(R ∗ Φ i)) = iprop(bigSep S (fun _ => R) ∗ bigSep S Φ) := bigSep_sep' S (fun _ => R) Φ
  have h2 : bigSep S (fun i => iprop(R ∗ Φ i)) ⊢ bigSep S Ψ := bigSep_mono fun i _ => h i
  rw [e] at h2
  exact (sep_mono_left (BI.bigSep_of_persistent S R)).trans h2

/-- Splitting the buffer at the first signal: what the device before is handed, and what stays. -/
theorem hand_over (c : Dev nD) :
    iprop(records m K ∗ bigSep Finset.univ fun i : Fin 8 => iprop(∃ f, chk c i fullShare f))
      ⊢ iprop(barPay (prv c) ∗ bigSep Finset.univ fun i : Fin 8 => own (F := F) c i) := by
  unfold barPay own
  by_cases h : c.val = 0
  · rw [if_pos ((prv_val c).mpr h)]
    simp only [if_pos h]
    iintro ⟨-, H⟩
    isplitr; · iempintro
    iexact H
  · rw [if_neg fun h' => h ((prv_val c).mp h'), nxt_prv]
    simp only [if_neg h]
    have e : iprop(records m K ∗ bigSep Finset.univ fun i : Fin 8 => iprop(∃ f, chk c i fullShare f))
        ⊢ (bigSep Finset.univ fun i : Fin 8 => iprop((∃ f, chk c i fullShare f) ∗ reached ER (recvCell c i) 0) : sProp 𝕄) :=
      to_each fun i => by
        iintro ⟨#HR, H⟩
        isplitl [H]; · iexact H
        iapply (reached_recv m K c i); iexact HR
    have e' : (bigSep Finset.univ fun i : Fin 8 => iprop(emp) : sProp 𝕄) = iprop(emp) := bigSep_emp_const _
    rw [e']
    iintro H
    ihave H := e $$ H
    isplitl [H]; · iexact H
    iempintro

/-- What the barrier's wait brings, chunk by chunk. -/
theorem gains (c : Dev nD) : barPay c ⊢ (bigSep Finset.univ fun i : Fin 8 => gain (F := F) c i : sProp 𝕄) := by
  unfold barPay gain
  by_cases h : c.val = 7
  · simp only [if_pos h]
    have e' : (bigSep Finset.univ fun i : Fin 8 => iprop(emp) : sProp 𝕄) = iprop(emp) := bigSep_emp_const _
    rw [e']
  · simp only [if_neg h]
    have e (i : Fin 8) : (iprop((∃ f, chk (nxt c) i fullShare f) ∗ reached ER (recvCell (nxt c) i) 0) : sProp 𝕄) ⊢ iprop(∃ f, chk (nxt c) i fullShare f) := by
      iintro ⟨H, -⟩
      iexact H
    exact bigSep_mono fun i _ => e i

/-- The counts at the start: the first device has every chunk's turn and no head in, the others have no chunk and count all heads. -/
def g₀ (c : Dev nD) : ℕ := if c.val = 0 then 0 else 64
def w₀ (c : Dev nD) : ℕ := if c.val = 0 then 8 else 0

theorem send_open (c : Dev nD) (i : Fin 8) :
    iprop(records m K ∗ (atPos ER (sendCell c i) 0 ∅ 0 ∗ dutyTok ER (sendCell c i) 0 false ∗ dutyTok ER (recvCell (nxt c) i) 0 false) ∗ gain c i)
      ⊢ iprop(|={Set.univ}[frame]=> sendRes (F := F) c i) := by
  unfold gain sendRes
  by_cases h : c.val = 7
  · rw [if_pos h, if_pos h]
    iintro ⟨#HR, ⟨Hat, -, -⟩, -⟩
    imod (Rounds.cell_close ER (rd m) (Set.mem_univ (K (c, some (false, i)))) (fun h => h) (R := 0) (duties_send_last m c i h)) $$ [Hat] with Hz
    · isplitr; · iapply (inv_send m K c i); iexact HR
      iexact Hat
    imodintro
    iexact Hz
  · rw [if_neg h, if_neg h]
    iintro ⟨-, ⟨Hat, Ht, Ht'⟩, Hn⟩
    imodintro
    isplitl [Hat]; · iexact Hat
    isplitl [Ht]; · iexact Ht
    isplitl [Ht']; · iexact Ht'
    iexact Hn

theorem chunk_open (c : Dev nD) (i : Fin 8) :
    iprop(records m K ∗ chunkRes c i ∗ gain c i ∗ own c i) ⊢ iprop(|={Set.univ}[frame]=> chunkSt m c i (ph (g₀ c) (w₀ c) 0 0 i.val)) := by
  have hi := i.isLt
  unfold chunkRes own
  by_cases h : c.val = 0
  · rw [if_pos h, if_pos h]
    have e : ph (g₀ c) (w₀ c) 0 0 i.val = .build 0 := by
      unfold ph g₀ w₀; rw [if_pos h, if_pos h]; split_ifs <;> first | omega | (congr 1; omega)
    rw [e]
    iintro ⟨#HR, ⟨Hat, -, Hs⟩, Hg, %f, Hf⟩
    imod (Rounds.cell_close ER (rd m) (Set.mem_univ (K (c, some (true, i)))) (fun h => h) (R := 0) (duties_recv_first m c i h)) $$ [Hat] with Hz
    · isplitr; · iapply (inv_recv m K c i); iexact HR
      iexact Hat
    imod (send_open m K c i) $$ [Hs Hg] with Hs
    · isplitr; · iexact HR
      isplitl [Hs]; · iexact Hs
      iexact Hg
    imodintro
    unfold chunkSt
    isplitl [Hz Hs]
    · isplitl [Hz]; · iexact Hz
      iexact Hs
    iexists f
    isplitr; · ipureintro; exact fun y _ _ h => absurd h (Nat.not_lt_zero _)
    iexact Hf
  · rw [if_neg h, if_neg h]
    have e : ph (g₀ c) (w₀ c) 0 0 i.val = .wait := by
      unfold ph g₀ w₀; rw [if_neg h, if_neg h]; split_ifs <;> first | omega | rfl
    rw [e]
    iintro ⟨#HR, ⟨Hat, Hcr, Hs⟩, Hg, -⟩
    imod (send_open m K c i) $$ [Hs Hg] with Hs
    · isplitr; · iexact HR
      isplitl [Hs]; · iexact Hs
      iexact Hg
    imodintro
    unfold chunkSt
    isplitl [Hat]; · iexact Hat
    isplitl [Hcr]; · iexact Hcr
    iexact Hs

theorem chunks_open (c : Dev nD) :
    iprop(records m K ∗ bigSep Finset.univ fun i : Fin 8 => iprop(chunkRes c i ∗ gain c i ∗ own c i))
      ⊢ iprop(|={Set.univ}[frame]=> bigSep Finset.univ fun i : Fin 8 => chunkSt m c i (ph (g₀ c) (w₀ c) 0 0 i.val)) :=
  (to_each (R := records m K) (Φ := fun i : Fin 8 => iprop(chunkRes c i ∗ gain c i ∗ own c i)) fun i => chunk_open m K c i).trans
    (bigSep_fupd Finset.univ fun i : Fin 8 => chunkSt m c i (ph (g₀ c) (w₀ c) 0 0 i.val))

omit [FloatOps F] [Named F] in
theorem three_sums (A B C : Fin 8 → sProp 𝕄) :
    bigSep Finset.univ (fun i => iprop(A i ∗ B i ∗ C i)) = iprop(bigSep Finset.univ A ∗ bigSep Finset.univ B ∗ bigSep Finset.univ C) := by
  rw [bigSep_sep' Finset.univ A (fun i => iprop(B i ∗ C i)), bigSep_sep' Finset.univ B C]

/-- The number of a device's place, and the word of the next place, as the body computes them. -/
def placeW (c : Dev nD) : BitVec 32 := Scalar.remsi (Scalar.divsi c.word 1#32) 8#32
def nextW (c : Dev nD) : BitVec 32 :=
  have v15 : BitVec 32 := Scalar.addi (placeW c) 1#32
  have v17 : BitVec 32 := Scalar.select (Scalar.cmpi .eq 8#32 0#32) 1#32 8#32
  have v18 : BitVec 32 := Scalar.remsi v15 v17
  Scalar.select (Scalar.andi (Scalar.xori (Scalar.cmpi .slt v18 0#32) (Scalar.cmpi .slt v17 0#32)) (Scalar.cmpi .ne v18 0#32)) (Scalar.addi v18 v17) v18

/-- The body's start, from `Pre` to the state at the start, the barrier cell's counter back at zero. -/
theorem st_bar {α : Type} {Q : α → sProp 𝕄} (c : Dev nD) {a0 ha0 a1 ha1 a2 ha2 a3 ha3 a4 ha4 a5 ha5 a6 ha6 a7 a8}
    {k : (Σ' (d0 : Dev nD) (v2 : BitVec 32), BitVec 32) → Prog (TpuEff nD τ sig (Elt F) Λ₀ .tc) α} :
    Pre m K c ⊢ iprop((semVal (barCell c) 0 ∗ St m K c (g₀ c) (w₀ c) 0 0 0 -∗ WP c (k ⟨c, placeW c, nextW c⟩) Q)
      -∗ WP c (k0_part65 (F := F) a0 ha0 a1 ha1 a2 ha2 a3 ha3 a4 ha4 a5 ha5 a6 ha6 a7 a8 >>= k) Q) := by
  rw [k0_part65_eq_skeleton]
  unfold k0_part65_skel
  simp only [semSignalWord, semWaitWord, Prog.lift, Prog.bind_op, Prog.bind_ret, Prog.pure_eq_ret, wp_deviceId, dev1_eq, dev2_eq]
  unfold Pre
  iintro ⟨#HR, #Hlev, ⟨%W, HO⟩, Hin, Hout, Hscr, ⟨HatB, HcB, HtN, HtP⟩, Hres⟩ Hk
  ihave Hscr := (hand_over m K c) $$ [Hscr]
  · isplitr; · iexact HR
    iexact Hscr
  icases Hscr with ⟨Hpay, Hown⟩
  iapply (Rounds.wp_signal 𝒱₀ ER (rd m) (c : Thread nD τ) none (dst := (prv c : Thread nD τ)) (κ := K (prv c, none))
      (d := true) (by rw [duties_bar]; exact Finset.mem_univ _) ((amount_bar m (prv c) true).trans (by decide)) () (O₁ c) rfl)
    $$ [HO HtP Hpay]
  · isplitr; · iapply (inv_bar m K (prv c)); iexact HR
    isplitl [HO]; · iexact HO
    isplitl [HtP]; · iexact HtP
    isplitl [Hpay]; · rw [payload_bar_true]; iexact Hpay
    iapply (reached_bar m K (prv c)); iexact HR
  iintro HO
  iapply (Rounds.wp_signal 𝒱₀ ER (rd m) (c : Thread nD τ) none (dst := (nxt c : Thread nD τ)) (κ := K (nxt c, none))
      (d := false) (by rw [duties_bar]; exact Finset.mem_univ _) ((amount_bar m (nxt c) false).trans (by decide)) () (Osend c 0) rfl)
    $$ [HO HtN]
  · isplitr; · iapply (inv_bar m K (nxt c)); iexact HR
    isplitl [HO]; · iexact HO
    isplitl [HtN]; · iexact HtN
    isplitr; · rw [payload_bar_false]; iempintro
    iapply (reached_bar m K (nxt c)); iexact HR
  iintro HO
  iapply (Rounds.wp_wait_rest_token 𝒱₀ ER (rd m) (c : Thread nD τ) none (κ := K (c, none))
      (wpE_semWait_eq 𝒱₀ (c : Thread nD τ) none Set.univ) (Set.mem_univ _) () (O := Osend c 0) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr
    · iapply (mayWait_send c (.reg barS) 0 (by rw [lv_bar]; omega)); iexact Hlev
    iexact HatB
  iintro ⟨HO, HatB, -, Hpay⟩
  ihave Hp := (Entails.of_eq (rest_bar m c)) $$ Hpay
  icases Hp with ⟨-, Hp⟩
  ihave Hp := (gains c) $$ Hp
  imod (Rounds.cell_close ER (rd m) (Set.mem_univ (K (c, none))) (fun h => h) (R := 0 + 1) (duties_later m (barCell c))) $$ [HatB] with HzB
  · isplitr; · iapply (inv_bar m K c); iexact HR
    iexact HatB
  imod (chunks_open m K c) $$ [Hres Hp Hown] with Hch
  · isplitr; · iexact HR
    iapply (Entails.of_eq (three_sums (fun i => chunkRes (F := F) c i) (fun i => gain (F := F) c i) (fun i => own (F := F) c i)).symm)
    isplitl [Hres]; · iexact Hres
    isplitl [Hp]; · iexact Hp
    iexact Hown
  iapply Hk
  isplitl [HzB]; · iexact HzB
  unfold St
  isplitr; · iexact HR
  isplitr; · iexact Hlev
  isplitl [HO]; · iexists _; iexact HO
  isplitl [Hin]; · iexact Hin
  isplitl [Hout]; · iexact Hout
  iexact Hch

end Cert.RingIdeal

end
-- ==== Proof.Body.lean ====
/-
  The body of a device that receives: the six in the middle of the line, which pass each chunk on, and the last, which does not.
-/
module

public import proofs.«01_k».proof.Proof.Bar
public import proofs.«01_k».proof.Proof.Gen.KernelIdeal.Skeleton

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) cc0_scratch1 cc0_scratch2

/-- What a device's state must be when its body ends. -/
def StEnd (c : Dev nD) : sProp 𝕄 := if c.val = 7 then St m K c 64 8 0 0 8 else St m K c 64 8 8 8 8

omit [FloatOps F] [Named F] in
/-- A rule that continues from a new state, used backwards. -/
theorem of_wand {P P' A B : sProp 𝕄} (hr : P ⊢ iprop((P' -∗ A) -∗ B)) (h : P' ⊢ A) : P ⊢ B := by
  iintro H
  iapply hr $$ H
  iintro H'
  iapply h $$ H'

omit [FloatOps F] [Named F] in
theorem of_wand_all {X : Type} {P P' B : sProp 𝕄} {A : X → sProp 𝕄} (hr : P ⊢ iprop((∀ x, P' -∗ A x) -∗ B)) (h : ∀ x, P' ⊢ A x) : P ⊢ B := by
  iintro H
  iapply hr $$ H
  iintro %x H'
  iapply (h x) $$ H'

theorem of_ret {α : Type} {Q : α → sProp 𝕄} (c : Dev nD) {a : α} {P : sProp 𝕄} (h : P ⊢ Q a) : P ⊢ WP c (.ret a) Q := by
  unfold WP
  rw [wp_ret]
  iintro H
  imodintro
  iapply h $$ H

theorem of_bind {α β : Type} {Q : β → sProp 𝕄} (c : Dev nD) {p : Prog (TpuEff nD τ sig (Elt F) Λ₀ .tc) α} {k : α → Prog (TpuEff nD τ sig (Elt F) Λ₀ .tc) β}
    {P : sProp 𝕄} (h : P ⊢ WP c p fun a => WP c (k a) Q) : P ⊢ WP c (p >>= k) Q := by
  unfold WP at h ⊢
  rw [wp_bind]
  exact h

theorem of_bind_eq {α β : Type} {Q : β → sProp 𝕄} (c : Dev nD) {p : Prog (TpuEff nD τ sig (Elt F) Λ₀ .tc) α} {k : α → Prog (TpuEff nD τ sig (Elt F) Λ₀ .tc) β}
    {P : sProp 𝕄} (h : ∀ Q' : α → sProp 𝕄, Q' = (fun a => WP c (k a) Q) → P ⊢ WP c p Q') : P ⊢ WP c (p >>= k) Q :=
  of_bind c (h _ rfl)

theorem of_frame {α : Type} {Q : α → sProp 𝕄} (c : Dev nD) {p : Prog (TpuEff nD τ sig (Elt F) Λ₀ .tc) α} {P R : sProp 𝕄} (h : P ⊢ WP c p Q) :
    iprop(R ∗ P) ⊢ WP c p fun a => iprop(R ∗ Q a) := by
  have e : iprop(WP c p Q ∗ R) ⊢ WP c p fun a => iprop(Q a ∗ R) := wp_frame_r _ _ _
  have e' : (WP c p fun a => iprop(Q a ∗ R)) ⊢ WP c p fun a => iprop(R ∗ Q a) := wp_mono _ _ _ fun a => sep_comm.1
  refine (BIBase.Entails.trans ?_ e).trans e'
  iintro ⟨HR, HP⟩
  isplitl [HP]
  · iapply h $$ HP
  · iexact HR

theorem cond1_iff (c : Dev nD) : k0_cond1 c = 1#1 ↔ c.val = 0 := by revert c; decide +kernel
theorem cond2_iff (c : Dev nD) : k0_cond2 c = 1#1 ↔ (c.val ≠ 0 ∧ c.val ≠ 7) := by revert c; decide +kernel
theorem cond3_iff (c : Dev nD) : Scalar.cmpi .ne (Scalar.extui (Scalar.cmpi .eq (placeW c) 7#32) : BitVec 32) 0#32 = 1#1 ↔ c.val = 7 := by
  revert c; decide +kernel

seal wp St

set_option maxRecDepth 65536 in
set_option maxHeartbeats 8000000 in
/-- A device in the middle of the line, once the barrier is passed: it ends with every chunk received, sent on and projected. -/
theorem fwd_run (c : Dev nD) (h0 : c.val ≠ 0) (h7 : c.val ≠ 7) :
    Pre m K c ⊢ WP c (theBody (F := F)) fun _ => iprop(semVal (barCell c) 0 ∗ St m K c 64 8 8 8 8) := by
  unfold theBody
  simp only [cc0_body_eq_skeleton, cc0_body_skel]
  refine of_wand (st_bar m K c) (of_frame c ?_)
  have hg : g₀ c = 64 := if_neg h0
  have hw : w₀ c = 0 := if_neg h0
  have h1 : ¬ k0_cond1 c = 1#1 := fun h => h0 ((cond1_iff c).1 h)
  have h2 : k0_cond2 c = 1#1 := (cond2_iff c).2 ⟨h0, h7⟩
  have h3 : ¬ Scalar.cmpi .ne (Scalar.extui (Scalar.cmpi .eq (placeW c) 7#32) : BitVec 32) 0#32 = 1#1 := fun h => h7 ((cond3_iff c).1 h)
  rw [hg, hw]
  generalize nextW c = v25
  simp only [k0_part66_eq_skeleton, k0_part66_skel, dif_neg h1, dif_pos h2, dif_neg h3,
    k0_part53_eq_skeleton, k0_part54_eq_skeleton, k0_part55_eq_skeleton, k0_part56_eq_skeleton, k0_part57_eq_skeleton, k0_part58_eq_skeleton,
    k0_part59_eq_skeleton, k0_part60_eq_skeleton,
    k0_part53_skel, k0_part54_skel, k0_part55_skel, k0_part56_skel, k0_part57_skel, k0_part58_skel, k0_part59_skel, k0_part60_skel,
    Prog.lift, Prog.bind_op, Prog.bind_ret, Prog.pure_eq_ret]
  repeat (first
    | (refine of_wand (st_waitRecv m K c h0 ?_ ?_ ?_ ?_ ?_ ?_) ?_; (iterate 4 (· decide)); (iterate 2 (· rfl)))
    | (refine of_wand (st_send m K c h7 ?_ ?_ ?_ ?_ ?_ ?_ ?_ ?_ ?_) ?_; (iterate 4 (· decide)); (· exact dev2_eq c); (iterate 4 (· rfl)))
    | (refine of_wand (st_waitSend m K c h7 ?_ ?_ ?_ ?_) ?_; (iterate 2 (· decide)); (iterate 2 (· rfl)))
    | (refine of_wand (st_ctxLoad m K c ?_ ?_ ?_) ?_; (iterate 2 (· decide)); (· rfl))
    | (refine of_wand (st_loadWo m K c ?_) ?_; (· rfl))
    | (refine of_wand_all (st_outLoad m K c) fun _ => ?_)
    | (refine of_wand (st_outStore m K c ?_ ?_ ?_) ?_; (· decide); (iterate 2 (· rfl))))
  exact of_ret c .rfl

set_option maxRecDepth 65536 in
set_option maxHeartbeats 8000000 in
/-- The last device of the line: it ends with every chunk received and projected. -/
theorem last_run (c : Dev nD) (h7 : c.val = 7) :
    Pre m K c ⊢ WP c (theBody (F := F)) fun _ => iprop(semVal (barCell c) 0 ∗ St m K c 64 8 0 0 8) := by
  unfold theBody
  simp only [cc0_body_eq_skeleton, cc0_body_skel]
  refine of_wand (st_bar m K c) (of_frame c ?_)
  have h0 : c.val ≠ 0 := by omega
  have hg : g₀ c = 64 := if_neg h0
  have hw : w₀ c = 0 := if_neg h0
  have h1 : ¬ k0_cond1 c = 1#1 := fun h => h0 ((cond1_iff c).1 h)
  have h2 : ¬ k0_cond2 c = 1#1 := fun h => ((cond2_iff c).1 h).2 h7
  have h3 : Scalar.cmpi .ne (Scalar.extui (Scalar.cmpi .eq (placeW c) 7#32) : BitVec 32) 0#32 = 1#1 := (cond3_iff c).2 h7
  rw [hg, hw]
  generalize nextW c = v25
  simp only [k0_part66_eq_skeleton, k0_part66_skel, dif_neg h1, dif_neg h2, dif_pos h3,
    k0_part61_eq_skeleton, k0_part62_eq_skeleton, k0_part63_eq_skeleton, k0_part64_eq_skeleton,
    k0_part61_skel, k0_part62_skel, k0_part63_skel, k0_part64_skel,
    Prog.lift, Prog.bind_op, Prog.bind_ret, Prog.pure_eq_ret]
  repeat (first
    | (refine of_wand (st_waitRecv m K c h0 ?_ ?_ ?_ ?_ ?_ ?_) ?_; (iterate 4 (· decide)); (iterate 2 (· rfl)))
    | (refine of_wand (st_ctxLoad m K c ?_ ?_ ?_) ?_; (iterate 2 (· decide)); (· rfl))
    | (refine of_wand (st_loadWo m K c ?_) ?_; (· rfl))
    | (refine of_wand_all (st_outLoad m K c) fun _ => ?_)
    | (refine of_wand (st_outStore m K c ?_ ?_ ?_) ?_; (· decide); (iterate 2 (· rfl))))
  exact of_ret c .rfl

end Cert.RingIdeal

end
-- ==== Proof.First.lean ====
/-
  The body of the first device, which makes every chunk and sends it.
-/
module

public import proofs.«01_k».proof.Proof.Body
public import proofs.«01_k».proof.Proof.Gen.KernelIdeal.Skeleton

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

seal wp St
seal k0_part1 k0_part2 k0_part3 k0_part4 k0_part5 k0_part6 k0_part7 k0_part8 k0_part9 k0_part10 k0_part11 k0_part12 k0_part13 k0_part14
  k0_part15 k0_part16 k0_part17 k0_part18 k0_part19 k0_part20 k0_part21 k0_part22 k0_part23 k0_part24 k0_part25 k0_part26 k0_part27 k0_part28
  k0_part29 k0_part30 k0_part31 k0_part32 k0_part33 k0_part34 k0_part35 k0_part36 k0_part37 k0_part38 k0_part39 k0_part40 k0_part41 k0_part42
  k0_part43 k0_part44 k0_part45 k0_part46 k0_part47 k0_part48 k0_part49 k0_part50 k0_part51

set_option maxRecDepth 65536 in
set_option maxHeartbeats 16000000 in
/-- The first device of the line: it ends with every chunk made, sent and projected. -/
theorem first_run (c : Dev nD) (hc : c = 0) :
    Pre m K c ⊢ WP c (theBody (F := F)) fun _ => iprop(semVal (barCell c) 0 ∗ St m K c 64 8 8 8 8) := by
  unfold theBody
  simp only [cc0_body_eq_skeleton, cc0_body_skel]
  refine of_wand (st_bar m K c) (of_frame c ?_)
  have h0 : c.val = 0 := by rw [hc]; rfl
  have h7 : c.val ≠ 7 := by omega
  have hg : g₀ c = 0 := if_pos h0
  have hw : w₀ c = 8 := if_pos h0
  have h1 : k0_cond1 c = 1#1 := (cond1_iff c).2 h0
  have h2 : ¬ k0_cond2 c = 1#1 := fun h => ((cond2_iff c).1 h).1 h0
  have h3 : ¬ Scalar.cmpi .ne (Scalar.extui (Scalar.cmpi .eq (placeW c) 7#32) : BitVec 32) 0#32 = 1#1 := fun h => h7 ((cond3_iff c).1 h)
  rw [hg, hw]
  generalize nextW c = v25
  simp only [k0_part66_eq_skeleton, k0_part66_skel, dif_pos h1, dif_neg h2, dif_neg h3, k0_part52_eq_skeleton, k0_part52_skel,
    Prog.bind_assoc, Prog.lift, Prog.bind_op, Prog.bind_ret, Prog.pure_eq_ret]
  repeat (first
    | (refine of_bind_eq c fun Q' hQ => ?_; simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton, k0_part48_eq_skeleton,
      k0_part49_eq_skeleton, k0_part50_eq_skeleton, k0_part51_eq_skeleton,
      k0_part1_skel, k0_part2_skel, k0_part3_skel, k0_part4_skel, k0_part5_skel, k0_part6_skel, k0_part7_skel, k0_part8_skel, k0_part9_skel,
      k0_part10_skel, k0_part11_skel, k0_part12_skel, k0_part13_skel, k0_part14_skel, k0_part15_skel, k0_part16_skel, k0_part17_skel,
      k0_part18_skel, k0_part19_skel, k0_part20_skel, k0_part21_skel, k0_part22_skel, k0_part23_skel, k0_part24_skel, k0_part25_skel,
      k0_part26_skel, k0_part27_skel, k0_part28_skel, k0_part29_skel, k0_part30_skel, k0_part31_skel, k0_part32_skel, k0_part33_skel,
      k0_part34_skel, k0_part35_skel, k0_part36_skel, k0_part37_skel, k0_part38_skel, k0_part39_skel, k0_part40_skel, k0_part41_skel,
      k0_part42_skel, k0_part43_skel, k0_part44_skel, k0_part45_skel, k0_part46_skel, k0_part47_skel, k0_part48_skel, k0_part49_skel,
      k0_part50_skel, k0_part51_skel,
      Prog.lift, Prog.bind_op, Prog.bind_ret, Prog.pure_eq_ret])
    | (refine of_wand (st_headStore m K c ?_ ?_ ?_ ?_ ?_ ?_) ?_; (iterate 4 (· decide)); (· rfl); (· subst hc; rfl))
    | (refine of_wand_all (st_headLoad m K c ?_ ?_ ?_ ?_ ?_) fun _ => ?_; (iterate 4 (· decide)); (· rfl))
    | (refine of_wand (st_send m K c h7 ?_ ?_ ?_ ?_ ?_ ?_ ?_ ?_ ?_) ?_; (iterate 4 (· decide)); (· exact dev2_eq c); (iterate 4 (· rfl)))
    | (refine of_wand (st_waitSend m K c h7 ?_ ?_ ?_ ?_) ?_; (iterate 2 (· decide)); (iterate 2 (· rfl)))
    | (refine of_wand (st_ctxLoad m K c ?_ ?_ ?_) ?_; (iterate 2 (· decide)); (· rfl))
    | (refine of_wand (st_loadWo m K c ?_) ?_; (· rfl))
    | (refine of_wand_all (st_outLoad m K c) fun _ => ?_)
    | (refine of_wand (st_outStore m K c ?_ ?_ ?_) ?_; (· decide); (iterate 2 (· rfl)))
    | (refine of_wand (st_loadX m K c 0 ?_) ?_; (· rfl))
    | (refine of_wand (st_loadX m K c 1 ?_) ?_; (· rfl))
    | (refine of_wand (st_loadWq m K c ?_) ?_; (· rfl))
    | (refine of_wand (st_loadK m K c 0 ?_) ?_; (· rfl))
    | (refine of_wand (st_loadK m K c 1 ?_) ?_; (· rfl))
    | (refine of_wand (st_loadV m K c 0 ?_) ?_; (· rfl))
    | (refine of_wand (st_loadV m K c 1 ?_) ?_; (· rfl))
    | (refine of_ret c ?_; subst hQ; dsimp only))
  exact of_ret c .rfl

end Cert.RingIdeal

end
-- ==== Proof.Launch.lean ====
/-
  The launch: what each device starts from, the run of the whole program, and its final state.
-/
module

public import proofs.«01_k».proof.Proof.First
public import Idealize.ShloMosaic.Lib.Pipeline.CollectiveSegs
public import proofs.«01_k».proof.Proof.Gen.KernelIdeal.Skeleton

@[expose] public section

noncomputable section

namespace Cert.RingIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The body, whichever device -/

/-- What the body leaves: the context buffer, every counter zero. -/
def Φ₁ (c : Dev nD) : sProp 𝕄 :=
  iprop((((c : Thread nD τ).loc cc0_scratch0) ↦{fullShare} (ctxB m : Buf (Elt F) ((c : Thread nD τ).loc cc0_scratch0)))
    ∗ (bigSep Finset.univ fun i : Fin 8 => semVal (sendCell c i) 0) ∗ (bigSep Finset.univ fun i : Fin 8 => semVal (recvCell c i) 0) ∗ semVal (barCell c) 0)

def Post (c : Dev nD) : sProp 𝕄 :=
  iprop(Φ₁ m c ∗ (∃ W, owes (c : Thread nD τ) 0 W) ∗ ins m c
    ∗ (((c : Thread nD τ).loc cc0_stg5_0) ↦{fullShare} (outB m c : Buf (Elt F) ((c : Thread nD τ).loc cc0_stg5_0))))

theorem chunk_fin (c : Dev nD) (i : Fin 8) :
    chunkSt m c i .fin ⊢ iprop(chk c i fullShare (ctxB m) ∗ semVal (sendCell c i) 0 ∗ semVal (recvCell c i) 0) := by
  unfold chunkSt
  iintro ⟨⟨H1, H2⟩, H3⟩
  isplitl [H3]; · iexact H3
  isplitl [H2] <;> iassumption

theorem chunk_last (c : Dev nD) (h : c.val = 7) (i : Fin 8) :
    chunkSt m c i (.build 8) ⊢ iprop(chk c i fullShare (ctxB m) ∗ semVal (sendCell c i) 0 ∗ semVal (recvCell c i) 0) := by
  unfold chunkSt sendRes
  rw [if_pos h]
  iintro ⟨⟨H1, H2⟩, ⟨%f, %hf, H3⟩⟩
  have e : (chk c i fullShare f : sProp 𝕄) = chk c i fullShare (ctxB m) :=
    chk_congr c i _ fun y h0 h1 => hf y h0 h1 (by have h2 : (y 2).val < 512 := (y 2).isLt; omega)
  isplitl [H3]; · iapply (Entails.of_eq e) $$ H3
  isplitl [H2] <;> iassumption

/-- The end of a body, when each chunk has come to rest. -/
theorem end_post (c : Dev nD) {g w s d : ℕ} (hs : Osend c s = 0)
    (h : ∀ i : Fin 8, chunkSt m c i (ph g w s d i.val) ⊢ iprop(chk c i fullShare (ctxB m) ∗ semVal (sendCell c i) 0 ∗ semVal (recvCell c i) 0)) :
    iprop(semVal (barCell c) 0 ∗ St m K c g w s d 8) ⊢ Post m c := by
  have e : (bigSep Finset.univ fun i : Fin 8 => chunkSt m c i (ph g w s d i.val))
      ⊢ iprop((bigSep Finset.univ fun i : Fin 8 => chk c i fullShare (ctxB m)) ∗ (bigSep Finset.univ fun i : Fin 8 => semVal (sendCell c i) 0)
        ∗ (bigSep Finset.univ fun i : Fin 8 => (semVal (recvCell c i) 0 : sProp 𝕄))) := by
    rw [← bigSep_sep', ← bigSep_sep']
    exact bigSep_mono fun i _ => h i
  unfold St outSt Post Φ₁
  rw [hs, chunks_eq]
  iintro ⟨HB, -, -, HO, Hin, ⟨%f, %hf, Hout⟩, Hch⟩
  ihave Hc := e $$ Hch
  icases Hc with ⟨H1, H2, H3⟩
  have hf' : f = outB m c := funext fun y => hf y (by
    have h0 : (y 0).val < 2 := (y 0).isLt
    have h1 : (y 1).val < 512 := (y 1).isLt
    omega)
  subst hf'
  isplitl [H1 H2 H3 HB]
  · isplitl [H1]; · iexact H1
    isplitl [H2]; · iexact H2
    isplitl [H3]; · iexact H3
    iexact HB
  isplitl [HO]; · iexact HO
  isplitl [Hin]; · iexact Hin
  iexact Hout

theorem body_run (c : Dev nD) : Pre m K c ⊢ WP c (theBody (F := F)) fun _ => Post m c := by
  have hfin : ∀ i : Fin 8, ph 64 8 8 8 i.val = .fin := by decide
  have hlast : ∀ i : Fin 8, ph 64 8 0 0 i.val = .build 8 := by decide
  have hq {P Q R : sProp 𝕄} (h1 : P ⊢ WP c (theBody (F := F)) fun _ => Q) (h2 : Q ⊢ R) : P ⊢ WP c (theBody (F := F)) fun _ => R :=
    BIBase.Entails.trans h1 (wp_mono _ _ _ fun _ => h2)
  by_cases h0 : c = 0
  · exact hq (first_run m K c h0) (end_post m K c (Osend_done c) fun i => by rw [hfin i]; exact chunk_fin m c i)
  by_cases h7 : c.val = 7
  · exact hq (last_run m K c h7) (end_post m K c (Osend_last c h7 0) fun i => by rw [hlast i]; exact chunk_last m c h7 i)
  · exact hq (fwd_run m K c (fun h => h0 (Fin.ext h)) h7) (end_post m K c (Osend_done c) fun i => by rw [hfin i]; exact chunk_fin m c i)

/-! ## The region's data -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from, apart from its buffers. -/
def start (c : Dev nD) : sProp 𝕄 :=
  iprop(∃ K, records m K ∗ levAts L lv
    ∗ (atPos ER (barCell c) 0 ∅ 0 ∗ cred (tallyAt (barCell c) () 2) ∗ dutyTok ER (barCell (nxt c)) 0 false ∗ dutyTok ER (barCell (prv c)) 0 true)
    ∗ bigSep Finset.univ fun i : Fin 8 => chunkRes c i)

def Φ₀ (c : Dev nD) : sProp 𝕄 :=
  iprop(start m c ∗ ∃ f : Buf (Elt F) ((c : Thread nD τ).loc cc0_scratch0), ((c : Thread nD τ).loc cc0_scratch0) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wqV m c
    | ⟨2, _⟩ => kV m c
    | ⟨3, _⟩ => vV m c
    | ⟨4, _⟩ => woV m c
    | ⟨5, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] [Named F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 4000 in
def bodyPost (c : Dev nD) : sProp 𝕄 :=
  iprop(Φ₁ m c ∗ (dats m ρ 0 c).owesAt () t₀.succ ∗ stg c cc0_stg0_0 (xV m c) ∗ stg c cc0_stg1_0 (wqV m c) ∗ stg c cc0_stg2_0 (kV m c)
    ∗ stg c cc0_stg3_0 (vV m c) ∗ stg c cc0_stg4_0 (woV m c) ∗ stg c cc0_stg5_0 (outB m c))

theorem fetch_in (w : Fin 6) (hw : w ≠ 5) (t : Fin cfg0.N) : (cfg0.win w).fetch t = true := by
  rw [fin_N t]; revert w; decide

theorem pre_of (c : Dev nD) : bodyPre m ρ c ⊢ iprop(∃ K, Pre m K c) := by
  unfold bodyPre Φ₀ start
  iintro ⟨⟨⟨%K, HR, Hlev, Hbar, Hres⟩, ⟨%fs, Hs⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xV m c := by rw [hg0]; unfold Dat.before; rw [if_pos (fetch_in 0 (by decide) t₀)]; rfl
  have e1 : g1 = wqV m c := by rw [hg1]; unfold Dat.before; rw [if_pos (fetch_in 1 (by decide) t₀)]; rfl
  have e2 : g2 = kV m c := by rw [hg2]; unfold Dat.before; rw [if_pos (fetch_in 2 (by decide) t₀)]; rfl
  have e3 : g3 = vV m c := by rw [hg3]; unfold Dat.before; rw [if_pos (fetch_in 3 (by decide) t₀)]; rfl
  have e4 : g4 = woV m c := by rw [hg4]; unfold Dat.before; rw [if_pos (fetch_in 4 (by decide) t₀)]; rfl
  subst e0 e1 e2 e3 e4
  unfold Dat.owesAt Pipeline.owesWithin
  rw [show (dats m ρ 0 c).owed t₀.castSucc = O₀ c from rfl]
  icases Ho with ⟨%W, %hW, HO⟩
  have hs : (((c : Thread nD τ).loc cc0_scratch0) ↦{fullShare} fs : sProp 𝕄) ⊢ bigSep Finset.univ fun i : Fin 8 => iprop(∃ f, chk c i fullShare f) := by
    have e (i : Fin 8) : (chk c i fullShare fs : sProp 𝕄) ⊢ iprop(∃ f, chk c i fullShare f) := by
      iintro H; iexists _; iexact H
    exact (Entails.of_eq (chunks_eq c fs)).trans (bigSep_mono fun i _ => e i)
  iexists K
  unfold Pre ins outSt
  isplitl [HR]; · iexact HR
  isplitl [Hlev]; · iexact Hlev
  isplitl [HO]; · iexists W; iexact HO
  isplitl [H0 H1 H2 H3 H4]
  · isplitl [H0]; · iexact H0
    isplitl [H1]; · iexact H1
    isplitl [H2]; · iexact H2
    isplitl [H3] <;> iassumption
  isplitl [H5]
  · iexists g5
    isplitr; · ipureintro; exact fun y hy => absurd hy (Nat.not_lt_zero _)
    iexact H5
  isplitl [Hs]; · iapply hs $$ Hs
  isplitl [Hbar]; · iexact Hbar
  iexact Hres

theorem post_of (c : Dev nD) : Post m c ⊢ bodyPost m ρ c := by
  unfold Post bodyPost ins Dat.owesAt Pipeline.owesWithin
  rw [show (dats m ρ 0 c).owed t₀.succ = 0 from rfl]
  iintro ⟨HΦ, ⟨%W, HO⟩, ⟨H0, H1, H2, H3, H4⟩, H5⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_stg]
  show bodyPre m ρ c ⊢ WP c (theBody (F := F)) fun _ => bodyPost m ρ c
  have e (K) : Pre m K c ⊢ WP c (theBody (F := F)) fun _ => bodyPost m ρ c :=
    BIBase.Entails.trans (body_run m K c) (wp_mono _ _ _ fun _ => post_of m ρ c)
  refine (pre_of m ρ c).trans ?_
  iintro ⟨%K, H⟩
  iapply (e K) $$ H

/-! ## The launch -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- Every cell's two duty tokens of round 0; a cell with fewer duties wastes the rest. -/
abbrev tokOf (x : (Dev nD × CI) × Bool) : GSem nD τ sig × ℕ × Bool := (kcell x.1, 0, x.2)
theorem tokOf_injective : Function.Injective (tokOf : (Dev nD × CI) × Bool → GSem nD τ sig × ℕ × Bool) := by
  rintro ⟨a, b⟩ ⟨a', b'⟩ h
  have h1 : a = a' := kcell_injective (congrArg Prod.fst h)
  have h2 : b = b' := congrArg (fun x : GSem nD τ sig × ℕ × Bool => x.2.2) h
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 := bigSep Finset.univ fun k : CI => iprop(dutyTok ER (kcell (c, k)) 0 false ∗ dutyTok ER (kcell (c, k)) 0 true)

/-- What the launch deals a device. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

omit [FloatOps F] [Named F] in
theorem bigSep_bool (Φ : Bool → sProp 𝕄) : bigSep Finset.univ Φ = iprop(Φ false ∗ Φ true) := bigSep_univ_eq_bigSepL [false, true] (by decide) (by decide) Φ

omit [FloatOps F] [Named F] in
/-- A device's cells: its barrier, its send cells, its receive cells. -/
theorem cells_split (Φ : CI → sProp 𝕄) : bigSep Finset.univ Φ
    = iprop(Φ none ∗ (bigSep Finset.univ fun i : Fin 8 => Φ (some (false, i))) ∗ bigSep Finset.univ fun i : Fin 8 => Φ (some (true, i))) := by
  have e : (Finset.univ : Finset CI).erase none = Finset.univ.map Function.Embedding.some := by decide
  rw [bigSep_univ_at Φ none, e, bigSep_map, bigSep_univ_prod, bigSep_bool]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    exact bigSep_congr fun c _ => by
      unfold toks
      exact bigSep_congr fun k _ => by rw [bigSep_bool]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 8 => semVal (sendCell c i) 0) ∗ bigSep Finset.univ fun i : Fin 8 => semVal (recvCell c i) 0) := by
  unfold Pipeline.ownSems0
  rw [bigSep_univ_prod, bigSep_bool]
  rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, cells_split]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((atPos ER (barCell c) 0 ∅ 0 ∗ dutyTok ER (barCell (nxt c)) 0 false ∗ dutyTok ER (barCell (prv c)) 0 true)
    ∗ bigSep Finset.univ fun i : Fin 8 => iprop(atPos ER (recvCell c i) 0 ∅ 0 ∗ atPos ER (sendCell c i) 0 ∅ 0
      ∗ dutyTok ER (sendCell c i) 0 false ∗ dutyTok ER (recvCell (nxt c) i) 0 false))

/-- What the global step makes of it. -/
def G' (c : Dev nD) : sProp 𝕄 := iprop(∃ K, records m K ∗ linear c)

theorem ghost_intro (c : Dev nD) : iprop(records m K ∗ linear c) ⊢ G' m c := by
  unfold G'
  iintro H
  iexists K
  iexact H

/-- A device's positions and the tokens of its own cells, cell by cell. -/
def own0 (c : Dev nD) : sProp 𝕄 :=
  iprop(((atPos ER (barCell c) 0 ∅ 0 ∗ bigSep Finset.univ fun i : Fin 8 => iprop(atPos ER (recvCell c i) 0 ∅ 0 ∗ atPos ER (sendCell c i) 0 ∅ 0 ∗ dutyTok ER (sendCell c i) 0 false))
      ∗ dutyTok ER (barCell c) 0 false) ∗ dutyTok ER (barCell c) 0 true ∗ bigSep Finset.univ fun i : Fin 8 => dutyTok ER (recvCell c i) 0 false)

omit [FloatOps F] [Named F] in
theorem own0_intro (c : Dev nD) : iprop((bigSep Finset.univ fun k : CI => atPos ER (kcell (c, k)) 0 ∅ 0) ∗ toks c) ⊢ (own0 c : sProp 𝕄) := by
  unfold toks own0
  rw [bigSep_sep', cells_split (fun k => atPos ER (kcell (c, k)) 0 ∅ 0), cells_split (fun k => dutyTok ER (kcell (c, k)) 0 false),
    cells_split (fun k => dutyTok ER (kcell (c, k)) 0 true), bigSep_sep', bigSep_sep']
  iintro ⟨⟨HaB, HaS, HaV⟩, ⟨HfB, HfS, HfV⟩, HtB, -, -⟩
  isplitl [HaB HaS HaV HfS HfB]
  · isplitr [HfB]
    · isplitl [HaB]; · iexact HaB
      isplitl [HaV]; · iexact HaV
      isplitl [HaS]; · iexact HaS
      iexact HfS
    · iexact HfB
  isplitl [HtB]; · iexact HtB
  iexact HfV

omit [FloatOps F] [Named F] in
/-- The tokens dealt around the ring: a barrier's first and a receive cell's to the device before, a barrier's second to the one after. -/
theorem toks_around : (bigSep Finset.univ fun c : Dev nD => (own0 c : sProp 𝕄)) ⊢ bigSep Finset.univ fun c : Dev nD => linear c := by
  have e (c : Dev nD) : (linear c : sProp 𝕄) = iprop((atPos ER (barCell c) 0 ∅ 0 ∗ dutyTok ER (barCell (nxt c)) 0 false ∗ dutyTok ER (barCell (prv c)) 0 true)
      ∗ (bigSep Finset.univ fun i : Fin 8 => atPos ER (recvCell c i) 0 ∅ 0) ∗ (bigSep Finset.univ fun i : Fin 8 => atPos ER (sendCell c i) 0 ∅ 0)
      ∗ (bigSep Finset.univ fun i : Fin 8 => dutyTok ER (sendCell c i) 0 false) ∗ bigSep Finset.univ fun i : Fin 8 => dutyTok ER (recvCell (nxt c) i) 0 false) := by
    unfold linear; rw [bigSep_sep', bigSep_sep', bigSep_sep']
  have e0 (c : Dev nD) : (own0 c : sProp 𝕄) = iprop(((atPos ER (barCell c) 0 ∅ 0 ∗ (bigSep Finset.univ fun i : Fin 8 => atPos ER (recvCell c i) 0 ∅ 0)
      ∗ (bigSep Finset.univ fun i : Fin 8 => atPos ER (sendCell c i) 0 ∅ 0) ∗ bigSep Finset.univ fun i : Fin 8 => dutyTok ER (sendCell c i) 0 false)
      ∗ dutyTok ER (barCell c) 0 false) ∗ dutyTok ER (barCell c) 0 true ∗ bigSep Finset.univ fun i : Fin 8 => dutyTok ER (recvCell c i) 0 false) := by
    unfold own0; rw [bigSep_sep', bigSep_sep']
  rw [bigSep_congr (fun c _ => e c), bigSep_congr (fun c _ => e0 c)]
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun i : Fin 8 => dutyTok ER (recvCell c i) 0 false : sProp 𝕄))]
  iintro ⟨⟨⟨H1, H2, H3, H4⟩, H5⟩, H6, H7⟩
  isplitl [H1 H5 H6]
  · isplitl [H1]; · iexact H1
    isplitl [H5]; · iexact H5
    iexact H6
  isplitl [H2]; · iexact H2
  isplitl [H3]; · iexact H3
  isplitl [H4]; · iexact H4
  iexact H7

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  have htok : iprop((bigSep Finset.univ fun c : Dev nD => bigSep Finset.univ fun k : CI => (atPos ER (kcell (c, k)) 0 ∅ 0 : sProp 𝕄)) ∗ bigSep Finset.univ fun c : Dev nD => toks c)
      ⊢ bigSep Finset.univ fun c : Dev nD => (linear c : sProp 𝕄) := by
    rw [← bigSep_sep']
    exact (bigSep_mono fun c _ => own0_intro c).trans toks_around
  iintro ⟨HI, ⟨Hat, #HR⟩, Htok⟩
  ihave HK := (BI.bigSep_exists_pi Finset.univ (fun (ck : Dev nD × CI) (κ : ℕ) => (cellInv ER (rd m) κ (kcell ck) : sProp 𝕄))) $$ HI
  icases HK with ⟨%K, #HI⟩
  iapply (to_each (R := records m K) fun c => ghost_intro m K c)
  isplitr
  · unfold records; isplitl; · iexact HI
    iexact HR
  · iapply htok
    isplitl [Hat]; · iexact Hat
    iexact Htok

/-- The semaphores of every device at once become cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] [Named F] in
theorem bar_eq_iff {a b : Dev nD} : Iff (barCell a = barCell b) (a = b) :=
  ⟨fun h => congrArg (fun g : GSem nD τ sig => g.1.1) h, fun h => h ▸ rfl⟩
omit [FloatOps F] [Named F] in
theorem recv_eq_iff {a b : Dev nD} {i j : Fin 8} : recvCell a i = recvCell b j ↔ a = b ∧ i = j := by
  constructor
  · intro h
    have := kcell_injective (a₁ := (a, some (true, i))) (a₂ := (b, some (true, j))) h
    simp only [Prod.mk.injEq, Option.some.injEq, true_and] at this
    exact this
  · rintro ⟨rfl, rfl⟩; rfl
omit [FloatOps F] [Named F] in
theorem recv_ne_bar (a b : Dev nD) (i : Fin 8) : recvCell a i ≠ barCell b := fun h => by
  have := kcell_injective (a₁ := (a, some (true, i))) (a₂ := (b, none)) h
  simp at this

omit [FloatOps F] [Named F] in
theorem Osend_bar (d c : Dev nD) : Osend d 0 (barCell c) () = 0 := by
  by_contra h
  obtain ⟨-, i, hi⟩ := Osend_pos (Nat.pos_of_ne_zero h)
  exact recv_ne_bar _ _ i hi.symm

omit [FloatOps F] [Named F] in
/-- What device `d` owes device `c`'s barrier: a unit if `c` is the device before it, a unit if the one after. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, Osend_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

omit [FloatOps F] [Named F] in
theorem owed_recv (d c : Dev nD) (hc : c.val ≠ 0) (i : Fin 8) : O₀ d (recvCell c i) () = if d = prv c then N else 0 := by
  unfold O₀ O₁
  rw [Pi.add_apply, Finsupp.add_apply, Pi.add_apply, Finsupp.add_apply,
    tallyAt_ne_cell (recv_ne_bar _ _ _), tallyAt_ne_cell (recv_ne_bar _ _ _), Finsupp.zero_apply, Nat.add_zero, Nat.add_zero]
  unfold Osend
  by_cases h7 : d.val = 7
  · have hn : d ≠ prv c := fun h => hc ((prv_val c).mp (h ▸ h7))
    rw [if_pos h7, if_neg hn]; rfl
  rw [if_neg h7, Finset.sum_apply, Finsupp.finset_sum_apply, Finset.sum_congr rfl fun j _ => tallyAt_apply _ _ _ _ _]
  by_cases h : d = prv c
  · subst h
    rw [if_pos rfl, Finset.sum_eq_single i]
    · rw [nxt_prv, if_pos ⟨rfl, rfl⟩]
    · intro j _ hj
      exact if_neg fun h' => hj (recv_eq_iff.mp h'.1).2.symm
    · intro h'; exact absurd (Finset.mem_filter.mpr ⟨Finset.mem_univ i, Nat.zero_le i.val⟩) h'
  · rw [if_neg h]
    refine Finset.sum_eq_zero fun j _ => if_neg fun h' => h ?_
    rw [← prv_nxt d]; exact congrArg prv (recv_eq_iff.mp h'.1).1.symm

omit [FloatOps F] [Named F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

omit [FloatOps F] [Named F] in
theorem launch_recv (c : Dev nD) (hc : c.val ≠ 0) (i : Fin 8) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c hc i, Finset.sum_ite_eq' Finset.univ (prv c) fun _ => N,
    if_pos (Finset.mem_univ _)]

omit [FloatOps F] [Named F] in
/-- What the others owe device `c`'s cells: two units to its barrier, a chunk's credit to each receive cell of any but the first device. -/
theorem creds (c : Dev nD) :
    (Pipeline.launchCred O₀ c : sProp 𝕄) ⊢ iprop(cred (tallyAt (barCell c) () 2)
      ∗ bigSep Finset.univ fun i : Fin 8 => (if c.val = 0 then iprop(emp) else cred (tallyAt (recvCell c i) () N))) := by
  have h1 : (Pipeline.launchCred O₀ c : sProp 𝕄) ⊢ bigSep Finset.univ fun k : CI => cred (tallyOn (kcell (c, k)) (launchCredit (Pipeline.owing O₀) 0 (kcell (c, k)))) := by
    unfold Pipeline.launchCred
    have e : (bigSep (Finset.univ.map ⟨csem, csem_injective⟩) fun sm : SemLoc sig => (cred (tallyOn ((c : Thread nD τ), sm) (launchCredit (Pipeline.owing O₀) 0 ((c : Thread nD τ), sm))) : sProp 𝕄))
        = bigSep Finset.univ fun k : CI => cred (tallyOn (kcell (c, k)) (launchCredit (Pipeline.owing O₀) 0 (kcell (c, k)))) := by
      rw [bigSep_map]; rfl
    rw [← e]
    exact bigSep_subset (Finset.subset_univ _)
  refine h1.trans ?_
  rw [cells_split, show (tallyOn (kcell (c, none)) (launchCredit (Pipeline.owing O₀) 0 (kcell (c, none))) : CellTallies nD τ sig Unit) = _ from launch_bar c]
  iintro ⟨HB, -, HR⟩
  isplitl [HB]; · iexact HB
  have h2 : (bigSep Finset.univ fun i : Fin 8 => cred (tallyOn (kcell (c, some (true, i))) (launchCredit (Pipeline.owing O₀) 0 (kcell (c, some (true, i))))))
      ⊢ (bigSep Finset.univ fun i : Fin 8 => (if c.val = 0 then iprop(emp) else cred (tallyAt (recvCell c i) () N)) : sProp 𝕄) := by
    refine bigSep_mono fun i _ => ?_
    by_cases hc : c.val = 0
    · rw [if_pos hc]
      exact BI.affine
    · rw [if_neg hc]
      exact Entails.of_eq (congrArg cred (launch_recv c hc i))
  iapply h2 $$ HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have e : iprop((bigSep Finset.univ fun i : Fin 8 => (if c.val = 0 then iprop(emp) else cred (tallyAt (recvCell c i) () N)))
      ∗ bigSep Finset.univ fun i : Fin 8 => iprop(atPos ER (recvCell c i) 0 ∅ 0 ∗ atPos ER (sendCell c i) 0 ∅ 0
      ∗ dutyTok ER (sendCell c i) 0 false ∗ dutyTok ER (recvCell (nxt c) i) 0 false)) ⊢ bigSep Finset.univ fun i : Fin 8 => (chunkRes c i : sProp 𝕄) := by
    have e1 (i : Fin 8) : iprop((if c.val = 0 then iprop(emp) else cred (tallyAt (recvCell c i) () N)) ∗ atPos ER (recvCell c i) 0 ∅ 0 ∗ atPos ER (sendCell c i) 0 ∅ 0
      ∗ dutyTok ER (sendCell c i) 0 false ∗ dutyTok ER (recvCell (nxt c) i) 0 false) ⊢ (chunkRes c i : sProp 𝕄) := by
      unfold chunkRes
      iintro ⟨H1, H2, H3⟩
      isplitl [H2]; · iexact H2
      isplitl [H1]; · iexact H1
      iexact H3
    rw [← bigSep_sep']
    exact bigSep_mono fun i _ => e1 i
  iintro ⟨-, Hlev, Hcr, -, HG⟩
  ihave Hc := (creds (F := F) c) $$ Hcr
  icases Hc with ⟨H1, HN⟩
  unfold G' linear
  icases HG with ⟨%K, HR, ⟨Hb1, Hb2, Hb3⟩, Hch⟩
  imodintro
  unfold start
  isplitl
  · iexists K
    isplitl [HR]; · iexact HR
    isplitl [Hlev]; · iexact Hlev
    isplitl [Hb1 Hb2 Hb3 H1]
    · isplitl [Hb1]; · iexact Hb1
      isplitl [H1]; · iexact H1
      isplitl [Hb2] <;> iassumption
    iapply e
    isplitl [HN]; · iexact HN
    iexact Hch
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' program ends, each device's arrays at the computed contents and
    every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_in (c : Dev nD) (w : Fin 6) (hw : w ≠ 5) : finalA m ρ c w = (s₀ m ρ).mem ((cfg0.win w).arr.view.loc (c : Thread nD τ)) :=
  (dats (F := F) m ρ 0 c).arrAt_in w (by revert w; decide) _

end Cert.RingIdeal

end
-- ==== Proof.Frames.lean ====
/- The frames: both of the kernel's programs end, on every device, with the argument arrays as launched and every counter at
   zero. The kernel over words is the idealized kernel read with its mask at the printed word. -/
module

public import proofs.«01_k».proof.Defs
public import proofs.«01_k».proof.Proof.Launch
public import proofs.«01_k».proof.Proof.Gen.Kernel

@[expose] public section

noncomputable section

namespace Cert.Frames

open Idealize.ShloMosaic Idealize.SL.Sem

section ideal

open Cert.KernelIdeal Cert.RingIdeal

variable {F : FTy → Type} [FloatOps F] [Named F]

/-- The eight devices' program ends with each device's argument arrays unchanged and the counters at zero. -/
theorem run_args (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c =>
      ⟨(h.1 c 0).trans (finalA_in m g c 0 (by decide)), (h.1 c 1).trans (finalA_in m g c 1 (by decide)), (h.1 c 2).trans (finalA_in m g c 2 (by decide)),
        (h.1 c 3).trans (finalA_in m g c 3 (by decide)), (h.1 c 4).trans (finalA_in m g c 4 (by decide))⟩, h.2⟩)
    (run_main m g)

end ideal

section words

variable {F : FTy → Type} [FloatOps F]

/-- Every named constant at its printed word. -/
@[reducible] def plain : Named F := ⟨fun _ _ {φ} b => Scalar.ofBits φ b⟩

attribute [local instance] plain

theorem main_eq : Cert.Kernel.main (F := F) = Cert.KernelIdeal.main (F := F) := rfl

theorem body_eq : Cert.Kernel.cc0_body (F := F) = Cert.KernelIdeal.cc0_body (F := F) := rfl

theorem bodies_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs (Cert.KernelIdeal.pcfgs (F := F))) (bodies_eq (F := F))

end words

attribute [local instance] plain in
/-- The kernel's frame, over words. -/
theorem kernel : Cert.quiescent_Kernel (hKernel := Cert.Kernel.Gen.facts) := by
  intro m g _
  rw [main_eq, defs_eq]
  exact run_args (F := Bits) m g

/-- The idealized kernel's frame. -/
theorem kernelIdeal : Cert.quiescent_KernelIdeal (hKernelIdeal := Cert.KernelIdeal.Gen.facts) :=
  fun m g _ => run_args m g

end Cert.Frames

end
-- ==== Proof.Ref.lean ====
/- The reference's run: a straight-line host program without semaphores. -/
module

public import proofs.«01_k».proof.Defs
public import proofs.«01_k».proof.Proof.Gen.ReferenceIdeal.Run
public import proofs.«01_k».proof.Proof.Gen.ReferenceIdeal.Read

@[expose] public section

noncomputable section

namespace Cert.Frames

open Idealize.ShloMosaic Idealize.SL.Sem

/-- The reference's frame. -/
theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Finite.lean ====
/-
  What the precondition gives: the queries, their projection and the first device's keys are numbers.
-/
module

public import proofs.«01_k».proof.Defs
public import Idealize.ShloMosaic.Lib.ReduceAll
public import Idealize.ShloMosaic.Lib.ValueIdx

@[expose] public section

noncomputable section

namespace Cert.Finite

open Idealize.ShloMosaic

/-- The side conditions of the precondition's function over the kernel's blocks. -/
theorem factsK : Cert.Pre_finite_scores_KernelIdeal.Facts := by
  constructor <;> decide

/-- The side conditions of the precondition's function over the reference's arrays. -/
theorem factsR : Cert.Pre_finite_scores_ReferenceIdeal.Facts := by
  constructor <;> decide

theorem pos_inf : Ideal.ofBits .f32 0x7F800000#32 = ⊤ := by
  simp [Ideal.ofBits, Ideal.ieee]

/-- An extended real whose magnitude is below +∞ is a number. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  rw [pos_inf] at h
  induction x with
  | bot => exact absurd h (by simp [FloatOps.cmpf, FloatOps.hostAbsf, Ideal.cmp])
  | top => exact absurd h (by simp [FloatOps.cmpf, FloatOps.hostAbsf, Ideal.cmp])
  | coe r => exact ⟨r, rfl⟩

instance : Subsingleton (⟨0, ![]⟩ : Shape).Idx := ⟨fun _ _ => funext fun a => a.elim0⟩

open Cert.Pre_finite_scores_KernelIdeal

variable [Cert.Pre_finite_scores_KernelIdeal.Facts]
  (x : FVec Ideal S2x512x768 .f32) (w : FVec Ideal S768x512 .f32) (k v : FVec Ideal S2x512x8x64 .f32) (o : FVec Ideal S512x768 .f32)

/-- The test of an array: whether every entry's magnitude is below +∞. -/
def test {s : Shape} {axes : List (Fin s.rank)} (z : FVec Ideal s .f32) (hb : S_.BroadcastsInDim s ![])
    (hr : s.ReducesTo axes S_) (hu : 0 < S_.numel) : IVec S_ 1 :=
  Host.reduce IntOp.andi (cmpf .olt (Host.absf z) (broadcastInDim s ![] hb (constant S_ .f32 0x7F800000#32))) (constantI S_ 1 1#1) hr hu

/-- An array that passes its test is made of numbers. -/
theorem all_real {s : Shape} {axes : List (Fin s.rank)} (z : FVec Ideal s .f32) (hb : S_.BroadcastsInDim s ![])
    (hr : s.ReducesTo axes S_) (hu : 0 < S_.numel) (h : test z hb hr hu = fun _ => 1#1) (i : s.Idx) : ∃ r : ℝ, (z i : EReal) = r :=
  real_of_lt (z i) (Host.reduce_andi_all _ _ hr hu ValueIdx.ix0 (congrFun h ValueIdx.ix0) i)

theorem fn_eq : fn x w k v o = (test x Facts.bcast_S_S2x512x768 Facts.reducesTo_S2x512x768_S_d0_1_2 Facts.h_S_,
    test w Facts.bcast_S_S768x512 Facts.reducesTo_S768x512_S_d0_1 Facts.h_S_,
    test k Facts.bcast_S_S2x512x8x64 Facts.reducesTo_S2x512x8x64_S_d0_1_2_3 Facts.h_S_) := rfl

theorem x_real (h : (fn x w k v o).1 = fun _ => 1#1) : ∀ i : S2x512x768.Idx, ∃ r : ℝ, (x i : EReal) = r := by
  rw [fn_eq] at h; dsimp only at h
  exact all_real x _ _ _ h

theorem w_real (h : (fn x w k v o).2.1 = fun _ => 1#1) : ∀ i : S768x512.Idx, ∃ r : ℝ, (w i : EReal) = r := by
  rw [fn_eq] at h; dsimp only at h
  exact all_real w _ _ _ h

theorem k_real (h : (fn x w k v o).2.2 = fun _ => 1#1) : ∀ i : S2x512x8x64.Idx, ∃ r : ℝ, (k i : EReal) = r := by
  rw [fn_eq] at h; dsimp only at h
  exact all_real k _ _ _ h

end Cert.Finite
end
-- ==== Proof.KMask.lean ====
/-
  The kernel's mask read at an entry: key `j` is seen by query row `o + r` exactly when its block of 64 is not later.
-/
module

public import proofs.«01_k».proof.Proof.Ctx
public import Idealize.ShloMosaic.Lib.ValueIdx
public import Idealize.ShloMosaic.Lib.Pipeline.Value

@[expose] public section

noncomputable section

namespace Cert.RingIdeal

open Cert.KernelIdeal Cert.KernelIdeal.Gen
open Idealize.ShloMosaic Idealize.ShloMosaic.ValueIdx

theorem fdiv64_apply {s : Shape} (r : IVec s 32) (i : s.Idx) :
    fdiv64 r i = fdiv64 (s := ⟨0, ![]⟩) (fun _ => r i) ix0 := rfl

/-- On a number below 512 the kernel's rounded-down division is the division of natural numbers. -/
theorem fdiv64_ofNat (n : Fin 512) :
    fdiv64 (s := ⟨0, ![]⟩) (fun _ => BitVec.ofNat 32 n.val) ix0 = BitVec.ofNat 32 (n.val / 64) := by
  revert n; decide +kernel

/-- Words below 64 compare as the numbers they are. -/
theorem sle_ofNat (a b : Fin 64) :
    IntOp.cmpi .sle (BitVec.ofNat 32 a.val) (BitVec.ofNat 32 b.val) = BitVec.ofBool (decide (a.val ≤ b.val)) := by
  revert a b; decide +kernel

theorem maskOf_apply {K : ℕ} (hf : HeadFacts K) (hK : K ≤ 512) (o : ℕ) (ho : o + 128 ≤ 512) (r : Fin 128) (j : Fin K) :
    maskOf hf (BitVec.ofNat 32 o) (ix2 r j) = BitVec.ofBool (decide (j.val / 64 ≤ (o + r.val) / 64)) := by
  have hj : j.val < 512 := lt_of_lt_of_le j.isLt hK
  have hr : o + r.val < 512 := by omega
  have e1 : fdiv64 (iota .tc (SQK K) 32 [1] hf.i1) (ix2 r j) = BitVec.ofNat 32 (j.val / 64) := by
    rw [fdiv64_apply, iota_single_apply]
    exact fdiv64_ofNat ⟨j.val, hj⟩
  have e2 : fdiv64 (addi (iota .tc (SQK K) 32 [0] hf.i0) (broadcast (SQK K) (BitVec.ofNat 32 o))) (ix2 r j)
      = BitVec.ofNat 32 ((o + r.val) / 64) := by
    rw [fdiv64_apply]
    have h : addi (iota .tc (SQK K) 32 [0] hf.i0) (broadcast (SQK K) (BitVec.ofNat 32 o)) (ix2 r j)
        = BitVec.ofNat 32 (o + r.val) := by
      show IntOp.addi (iota .tc (SQK K) 32 [0] hf.i0 (ix2 r j)) (BitVec.ofNat 32 o) = _
      rw [iota_single_apply]
      show BitVec.ofNat 32 r.val + BitVec.ofNat 32 o = _
      rw [← BitVec.ofNat_add, Nat.add_comm]
    rw [h]
    exact fdiv64_ofNat ⟨o + r.val, hr⟩
  show IntOp.cmpi .sle _ _ = _
  rw [e1, e2]
  exact sle_ofNat ⟨j.val / 64, by omega⟩ ⟨(o + r.val) / 64, by omega⟩

end Cert.RingIdeal
end
-- ==== Proof.Soft.lean ====
/-
  One row of attention over the extended reals: the values of the keys weighted by the exponentials of the scores, shifted by
  the row's largest score and divided by their sum. Keys whose score is −∞ take no part once some score is a number.
-/
module

public import Idealize.ShloMosaic.PureOps.Ideal.Laws
public import Idealize.ShloMosaic.Lib.ValueIdx

@[expose] public section

noncomputable section

namespace Cert.Soft

open Idealize.ShloMosaic

/-- The largest of a row's scores. -/
def top {N : ℕ} (s : Fin N → EReal) : EReal := Finset.univ.sup s
/-- The exponential of a score, the row's largest taken off. -/
def ex {N : ℕ} (s : Fin N → EReal) (j : Fin N) : EReal := Ideal.exp (s j - top s)
/-- A row of attention: each value times its weight. -/
def row {N : ℕ} (s v : Fin N → EReal) : EReal := ∑ j, Ideal.div (ex s j) (∑ k, ex s k) * v j

theorem exp_nonneg (x : EReal) : 0 ≤ Ideal.exp x := by
  induction x with
  | bot => exact le_of_eq rfl
  | top => exact le_top
  | coe r => exact EReal.coe_nonneg.mpr (Real.exp_pos r).le

theorem exp_bot : Ideal.exp (⊥ : EReal) = 0 := rfl

/-- The largest score of a row with a number in it and no +∞ is a number. -/
theorem top_real {N : ℕ} (s : Fin N → EReal) (j₀ : Fin N) (h0 : s j₀ ≠ ⊥) (ht : ∀ j, s j ≠ ⊤) : ∃ r : ℝ, top s = r := by
  have hb : top s ≠ ⊥ := fun h => h0 (le_bot_iff.mp (h ▸ Finset.le_sup (f := s) (Finset.mem_univ j₀)))
  have ht' : top s ≠ ⊤ := ((Finset.sup_lt_iff (bot_lt_top : (⊥ : EReal) < ⊤)).mpr fun j _ => lt_top_iff_ne_top.mpr (ht j)).ne
  exact ⟨(top s).toReal, (EReal.coe_toReal ht' hb).symm⟩

/-- The weights of such a row do not sum to zero. -/
theorem sum_ne_zero {N : ℕ} (s : Fin N → EReal) (j₀ : Fin N) (h0 : s j₀ ≠ ⊥) (ht : ∀ j, s j ≠ ⊤) : ∑ k, ex s k ≠ 0 := by
  obtain ⟨r, hr⟩ := top_real s j₀ h0 ht
  obtain ⟨j, -, hj⟩ := Finset.exists_mem_eq_sup Finset.univ ⟨j₀, Finset.mem_univ _⟩ s
  have h1 : ex s j = 1 := by
    have hs : s j = (r : EReal) := hj.symm.trans hr
    unfold ex
    rw [hr, hs, ← EReal.coe_sub, sub_self]
    show ((Real.exp 0 : ℝ) : EReal) = 1
    rw [Real.exp_zero]; rfl
  have h2 : ex s j ≤ ∑ k, ex s k := Finset.single_le_sum (f := ex s) (fun k _ => exp_nonneg _) (Finset.mem_univ j)
  intro h
  rw [h, h1] at h2
  exact absurd h2 (by norm_num)

/-- Adding keys whose score is −∞ to a row changes nothing. -/
theorem row_castLE {K N : ℕ} (hKN : K ≤ N) (s v : Fin N → EReal) (j₀ : Fin N) (h0 : s j₀ ≠ ⊥) (ht : ∀ j, s j ≠ ⊤)
    (hb : ∀ j : Fin N, K ≤ j.val → s j = ⊥) :
    row (fun j : Fin K => s (Fin.castLE hKN j)) (fun j => v (Fin.castLE hKN j)) = row s v := by
  have htop : top (fun j : Fin K => s (Fin.castLE hKN j)) = top s := by
    refine le_antisymm (Finset.sup_le fun j _ => Finset.le_sup (f := s) (Finset.mem_univ _)) (Finset.sup_le fun j _ => ?_)
    rcases Nat.lt_or_ge j.val K with h | h
    · exact Finset.le_sup (f := fun j : Fin K => s (Fin.castLE hKN j)) (Finset.mem_univ ⟨j.val, h⟩)
    · rw [hb j h]; exact bot_le
  have hex : ∀ j : Fin K, ex (fun j : Fin K => s (Fin.castLE hKN j)) j = ex s (Fin.castLE hKN j) := fun j => by
    unfold ex; rw [htop]
  obtain ⟨r, hr⟩ := top_real s j₀ h0 ht
  have hz : ∀ j : Fin N, j ∉ Set.range (Fin.castLE hKN) → ex s j = 0 := fun j hj => by
    have h : K ≤ j.val := Nat.le_of_not_lt fun h => hj ⟨⟨j.val, h⟩, rfl⟩
    unfold ex
    rw [hb j h, hr, sub_eq_add_neg, EReal.bot_add, exp_bot]
  have hinj : Function.Injective (Fin.castLE hKN) := Fin.castLE_injective hKN
  have hsum : ∑ k, ex (fun j : Fin K => s (Fin.castLE hKN j)) k = ∑ k, ex s k :=
    Fintype.sum_of_injective _ hinj _ _ hz hex
  refine Fintype.sum_of_injective _ hinj _ _ (fun j hj => ?_) (fun j => ?_)
  · rw [hz j hj]
    have : Ideal.div 0 (∑ k, ex s k) = 0 := by
      unfold Ideal.div
      rw [if_neg (sum_ne_zero s j₀ h0 ht), zero_mul]
    rw [this, zero_mul]
  · rw [hsum, hex j]

/-- A finite sum of products of numbers is a number. -/
theorem sum_mul_real {N : ℕ} (a b : Fin N → EReal) (ha : ∀ j, ∃ r : ℝ, a j = r) (hb : ∀ j, ∃ r : ℝ, b j = r) :
    ∃ r : ℝ, ∑ j, a j * b j = r := by
  choose a' ha' using ha
  choose b' hb' using hb
  refine ⟨∑ j, a' j * b' j, ?_⟩
  have h : ((∑ j, a' j * b' j : ℝ) : EReal) = ∑ j, ((a' j * b' j : ℝ) : EReal) := by
    induction (Finset.univ : Finset (Fin N)) using Finset.cons_induction with
    | empty => simp
    | cons x S hx ih => rw [Finset.sum_cons, Finset.sum_cons, EReal.coe_add, ih]
  rw [h]
  exact Finset.sum_congr rfl fun j _ => by rw [ha' j, hb' j, EReal.coe_mul]

/-- The fold of `max` from −∞ over a row is its largest score. -/
theorem fold_max {N : ℕ} (s : Fin N → EReal) : Finset.univ.fold max ⊥ s = top s := rfl

/-! ## The attention layer on whole arrays -/

/-- A float array of extended reals. -/
abbrev Arr (s : Shape) : Type := s.Idx → EReal

/-- One eighth, as its word says. -/
def eighth : EReal := Ideal.ofBits .f32 0x3E000000#32

theorem eighth_eq : eighth = ((0.125 : ℝ) : EReal) := by
  unfold eighth
  simp [Ideal.ofBits, Ideal.ieee, -EReal.coe_mul]
  norm_num

/-- A row of the query projection. -/
def proj (x : Arr ⟨3, ![2, 512, 768]⟩) (w : Arr ⟨2, ![768, 512]⟩) (b : Fin 2) (i : Fin 512) (n : Fin 512) : EReal :=
  ∑ k : Fin 768, x (ValueIdx.ix3 b i k) * w (ValueIdx.ix2 k n)

/-- Column `e` of head `h`. -/
def col (h : Fin 8) (e : Fin 64) : Fin 512 := ⟨64 * h.val + e.val, by omega⟩

/-- The scaled scores of query row `i` of a head against `N` keys: those of a later block of 64 are −∞. -/
def score {N : ℕ} (q : Fin 512 → EReal) (k : Fin N → Fin 64 → EReal) (h : Fin 8) (i : ℕ) (j : Fin N) : EReal :=
  if j.val / 64 ≤ i / 64 then (∑ e : Fin 64, q (col h e) * k j e) * eighth else ⊥

end Cert.Soft
end
-- ==== Proof.KVal.lean ====
/-
  One head of the kernel read at an entry: a row of attention over the keys its chunk of queries may see.
-/
module

public import proofs.«01_k».proof.Proof.KMask
public import proofs.«01_k».proof.Proof.Soft
public import Idealize.ShloMosaic.Lib.MatmulPlain
public import Idealize.ShloMosaic.Lib.ValueLayout
public import Idealize.ShloMosaic.Lib.ValueLayoutCasts

@[expose] public section

noncomputable section

namespace Cert.RingIdeal

open Cert.KernelIdeal Cert.KernelIdeal.Gen
open Idealize.ShloMosaic Idealize.ShloMosaic.ValueIdx
open Cert.Soft

variable {K : ℕ}

theorem neg_inf : Ideal.ofBits .f32 0xFF800000#32 = ⊥ := by
  simp [Ideal.ofBits, Ideal.ieee]

/-- Head `h` of the keys or of the values, row `j`. -/
theorem headRow_apply (hf : HeadFacts K) (hK : K ≤ 512) (h : Fin 8) (k : FVec Ideal S512x8x64 .f32) (j : Fin K) (e : Fin 64) :
    shapeCast (SK K) (extractStridedSlice (SK1 K) ![0, h.val, 0] k (sliceK K hK h)) hf.cast (ix2 j e)
      = k (ix3 ⟨j.val, by omega⟩ h e) := by
  refine (shapeCast_apply _ hf.cast (ix2 j e) (ix3 j (⟨0, Nat.one_pos⟩ : Fin 1) e) ?_).trans ?_
  · rewrite [Shape.rowMajor_val_three, Shape.rowMajor_val_two]
    show (j.val * 1 + 0) * 64 + e.val = j.val * 64 + e.val
    omega
  · refine extractStridedSlice_apply _ _ _ _ _ fun a => ?_
    match a with
    | ⟨0, _⟩ => show j.val = 0 + j.val; omega
    | ⟨1, _⟩ => show h.val = h.val + 0; omega
    | ⟨2, _⟩ => show e.val = 0 + e.val; omega

/-- A row's scores in the kernel. -/
abbrev ks (hK : K ≤ 512) (q : FVec Ideal S512x512 .f32) (k : FVec Ideal S512x8x64 .f32) (c : Fin 4) (h : Fin 8) (r : Fin 128) :
    Fin K → EReal :=
  score (fun n => q (ix2 ⟨128 * c.val + r.val, by omega⟩ n)) (fun j e => k (ix3 ⟨j.val, by omega⟩ h e)) h (128 * c.val + r.val)

theorem scoreOf_apply (hf : HeadFacts K) (hK : K ≤ 512) (c : Fin 4) (h : Fin 8) (q : FVec Ideal S512x512 .f32)
    (k : FVec Ideal S512x8x64 .f32) (r : Fin 128) (j : Fin K) :
    scoreOf hf (BitVec.ofNat 32 (128 * c.val)) (sliceQ c h) (sliceK K hK h) q k (ix2 r j) = ks hK q k c h r j := by
  unfold scoreOf
  rw [select_apply, maskOf_apply hf hK (128 * c.val) (by omega) r j]
  have e1 : (matmul ⟨[1], [1], [0], [0], [], [], hf.wfQK⟩ none (extractStridedSlice S128x64 ![128 * c.val, 64 * h.val] q (sliceQ c h))
        (shapeCast (SK K) (extractStridedSlice (SK1 K) ![0, h.val, 0] k (sliceK K hK h)) hf.cast)
        (constant (SQK K) .f32 0x00000000#32) : FVec Ideal (SQK K) .f32) (ix2 r j)
      = ∑ e : Fin 64, q (ix2 ⟨128 * c.val + r.val, by omega⟩ (col h e)) * k (ix3 ⟨j.val, by omega⟩ h e) := by
    refine (Ideal.matmul_transposedRhs_apply (M := 128) (K := 64) (N := K) none _ _ _ r j).trans ?_
    have h0 : (constant (SQK K) .f32 0x00000000#32 : FVec Ideal (SQK K) .f32) (ix2 r j) = 0 := Ideal.ofBits_zero_f32
    rw [h0, zero_add]
    refine Finset.sum_congr rfl fun e _ => ?_
    rw [headRow_apply hf hK]
    congr 1
    refine extractStridedSlice_apply _ _ _ _ _ fun a => ?_
    match a with
    | ⟨0, _⟩ => rfl
    | ⟨1, _⟩ => rfl
  unfold ks score
  by_cases hm : j.val / 64 ≤ (128 * c.val + r.val) / 64
  · rw [if_pos hm, decide_eq_true hm]
    refine (select_one _ _).trans ?_
    rw [← e1]
    rfl
  · rw [if_neg hm, decide_eq_false hm]
    exact (select_zero _ _).trans rfl

/-- A row's maximum, spread over the row again. -/
theorem spread_apply (hf : HeadFacts K) (x : FVec Ideal S128 .f32) (r : Fin 128) (j : Fin K) :
    broadcastTo (SQK K) (shapeCast S128x1 x shapeCasts_S128_S128x1) hf.bcast (ix2 r j) = x (ix1 r) := by
  refine (broadcastTo_apply _ hf.bcast (ix2 r j) (ix2 r (⟨0, Nat.one_pos⟩ : Fin 1)) fun a => ?_).trans
    (shapeCast_a_a1_apply x shapeCasts_S128_S128x1 r _)
  match a with
  | ⟨0, _⟩ => rfl
  | ⟨1, _⟩ => rfl

theorem expOf_apply (hf : HeadFacts K) (s : FVec Ideal (SQK K) .f32) (r : Fin 128) (j : Fin K) :
    expOf hf s (ix2 r j) = ex (fun j => s (ix2 r j)) j := by
  have hm : multiReduction .maximumf [1] S128 s 0xFF800000#32 hf.red (.inl rfl) rfl (ix1 r) = top (fun j => s (ix2 r j)) := by
    refine (Ideal.multiReduction_maximumf_single s 0xFF800000#32 hf.red (.inl rfl) rfl (ix1 r)).trans ?_
    have hl : (s ∘ hf.red.lift (ix1 r)) = fun j : Fin K => s (ix2 r j) := by
      funext j
      refine congrArg s ?_
      funext a; match a with | ⟨0, _⟩ => rfl | ⟨1, _⟩ => rfl
    have hb : FloatOps.ofBits (F := Ideal) .f32 0xFF800000#32 = (⊥ : EReal) := neg_inf
    rw [hl, hb]
    exact fold_max _
  exact congrArg (fun y : EReal => Ideal.exp (s (ix2 r j) - y)) ((spread_apply hf _ r j).trans hm)

theorem softOf_apply (hf : HeadFacts K) (e : FVec Ideal (SQK K) .f32) (r : Fin 128) (j : Fin K) :
    softOf hf e (ix2 r j) = Ideal.div (e (ix2 r j)) (∑ k : Fin K, e (ix2 r k)) := by
  have hm : multiReduction .add [1] S128 e 0x00000000#32 hf.red (.inl rfl) rfl (ix1 r) = ∑ k : Fin K, e (ix2 r k) := by
    refine (Ideal.multiReduction_add_single e 0x00000000#32 hf.red (.inl rfl) rfl (ix1 r)).trans ?_
    refine Finset.sum_congr rfl fun k _ => congrArg e ?_
    funext a; match a with | ⟨0, _⟩ => rfl | ⟨1, _⟩ => rfl
  exact congrArg (fun y : EReal => Ideal.div (e (ix2 r j)) y) ((spread_apply hf _ r j).trans hm)

theorem att_apply (hf : HeadFacts K) (hK : K ≤ 512) (c : Fin 4) (h : Fin 8) (q : FVec Ideal S512x512 .f32)
    (k v : FVec Ideal S512x8x64 .f32) (r : Fin 128) (d : Fin 64) :
    att hf (BitVec.ofNat 32 (128 * c.val)) (sliceQ c h) (sliceK K hK h) q k v (ix3 (⟨0, Nat.one_pos⟩ : Fin 1) r d)
      = row (ks hK q k c h r) (fun j => v (ix3 ⟨j.val, by omega⟩ h d)) := by
  unfold att
  refine (shapeCast_apply _ shapeCasts_S128x64_S1x128x64 _ (ix2 r d) ?_).trans ?_
  · rewrite [Shape.rowMajor_val_three, Shape.rowMajor_val_two]
    show r.val * 64 + d.val = (0 * 128 + r.val) * 64 + d.val
    omega
  refine (Ideal.matmul_plain_apply (M := 128) (K := K) (N := 64) none _ _ _ r d).trans ?_
  have h0 : (constant S128x64 .f32 0x00000000#32 : FVec Ideal S128x64 .f32) (ix2 r d) = 0 := Ideal.ofBits_zero_f32
  rw [h0, zero_add]
  have hs : (fun j => scoreOf hf (BitVec.ofNat 32 (128 * c.val)) (sliceQ c h) (sliceK K hK h) q k (ix2 r j)) = ks hK q k c h r :=
    funext fun j => scoreOf_apply hf hK c h q k r j
  refine Finset.sum_congr rfl fun j _ => ?_
  rw [headRow_apply hf hK, softOf_apply]
  simp only [expOf_apply, hs]

/-- How many keys a chunk of queries sees. -/
abbrev seen (c : Fin 4) : ℕ := 128 * (c.val + 1)
theorem seen_le (c : Fin 4) : seen c ≤ 512 := by unfold seen; omega

theorem headOf_apply (c : Fin 4) (h : Fin 8) (q : FVec Ideal S512x512 .f32) (k v : FVec Ideal S512x8x64 .f32) (r : Fin 128)
    (d : Fin 64) :
    headOf c h q k v (ix3 (⟨0, Nat.one_pos⟩ : Fin 1) r d)
      = row (ks (seen_le c) q k c h r) (fun j => v (ix3 ⟨j.val, lt_of_lt_of_le j.isLt (seen_le c)⟩ h d)) := by
  match c with
  | ⟨0, _⟩ => exact att_apply headFacts128 _ 0 h q k v r d
  | ⟨1, _⟩ => exact att_apply headFacts256 _ 1 h q k v r d
  | ⟨2, _⟩ => exact att_apply headFacts384 _ 2 h q k v r d
  | ⟨3, _⟩ => exact att_apply headFacts512 _ 3 h q k v r d

end Cert.RingIdeal
end
-- ==== Proof.OutVal.lean ====
/-
  A device's result read at an entry, from the arrays at launch.
-/
module

public import proofs.«01_k».proof.Proof.KVal
public import proofs.«01_k».proof.Proof.Launch

@[expose] public section

noncomputable section

namespace Cert.RingIdeal

open Cert.KernelIdeal Cert.KernelIdeal.Gen
open Idealize.ShloMosaic Idealize.ShloMosaic.ValueIdx Idealize.ShloMosaic.TcCoe
open Cert.Soft

variable (m : (ℓ : Loc nD τ sig) → Buf (Elt Ideal) ℓ) (ρ : Dev nD → PrngReg)

/-- The arrays at launch, as arrays of extended reals. -/
abbrev a0 (c : Dev nD) : Arr ⟨3, ![2, 512, 768]⟩ := m ((c : Thread nD τ).loc main_arg0)
abbrev a1 (c : Dev nD) : Arr ⟨2, ![768, 512]⟩ := m ((c : Thread nD τ).loc main_arg1)
abbrev a2 (c : Dev nD) : Arr ⟨4, ![2, 512, 8, 64]⟩ := m ((c : Thread nD τ).loc main_arg2)
abbrev a3 (c : Dev nD) : Arr ⟨4, ![2, 512, 8, 64]⟩ := m ((c : Thread nD τ).loc main_arg3)
abbrev a4 (c : Dev nD) : Arr ⟨2, ![512, 768]⟩ := m ((c : Thread nD τ).loc main_arg4)

abbrev z1 : Fin 1 := ⟨0, Nat.one_pos⟩

theorem xR_apply (c : Dev nD) (b : Fin 2) (i : Fin 512) (k : Fin 768) : xR m c b (ix3 z1 i k) = a0 m c (ix3 b i k) := by
  refine congrArg (a0 m c) (funext fun a => Fin.ext ?_)
  match a with
  | ⟨0, _⟩ => show 0 * 2 + 1 * (b.val + 1 * 0) = b.val; omega
  | ⟨1, _⟩ => show 0 * 512 + 1 * (0 + 1 * i.val) = i.val; omega
  | ⟨2, _⟩ => show 0 * 768 + 1 * (0 + 1 * k.val) = k.val; omega

theorem wqR_apply (c : Dev nD) (k : Fin 768) (n : Fin 512) : wqR m c (ix2 k n) = a1 m c (ix2 k n) := by
  refine congrArg (a1 m c) (funext fun a => Fin.ext ?_)
  match a with
  | ⟨0, _⟩ => show 0 * 768 + 1 * (0 + 1 * k.val) = k.val; omega
  | ⟨1, _⟩ => show 0 * 512 + 1 * (0 + 1 * n.val) = n.val; omega

theorem woR_apply (c : Dev nD) (n : Fin 512) (o : Fin 768) : woR m c (ix2 n o) = a4 m c (ix2 n o) := by
  refine congrArg (a4 m c) (funext fun a => Fin.ext ?_)
  match a with
  | ⟨0, _⟩ => show 0 * 512 + 1 * (0 + 1 * n.val) = n.val; omega
  | ⟨1, _⟩ => show 0 * 768 + 1 * (0 + 1 * o.val) = o.val; omega

theorem kR_apply (c : Dev nD) (b : Fin 2) (j : Fin 512) (h : Fin 8) (e : Fin 64) : kR m c b (ix4 z1 j h e) = a2 m c (ix4 b j h e) := by
  refine congrArg (a2 m c) (funext fun a => Fin.ext ?_)
  match a with
  | ⟨0, _⟩ => show 0 * 2 + 1 * (b.val + 1 * 0) = b.val; omega
  | ⟨1, _⟩ => show 0 * 512 + 1 * (0 + 1 * j.val) = j.val; omega
  | ⟨2, _⟩ => show 0 * 8 + 1 * (0 + 1 * h.val) = h.val; omega
  | ⟨3, _⟩ => show 0 * 64 + 1 * (0 + 1 * e.val) = e.val; omega

theorem vR_apply (c : Dev nD) (b : Fin 2) (j : Fin 512) (h : Fin 8) (e : Fin 64) : vR m c b (ix4 z1 j h e) = a3 m c (ix4 b j h e) := by
  refine congrArg (a3 m c) (funext fun a => Fin.ext ?_)
  match a with
  | ⟨0, _⟩ => show 0 * 2 + 1 * (b.val + 1 * 0) = b.val; omega
  | ⟨1, _⟩ => show 0 * 512 + 1 * (0 + 1 * j.val) = j.val; omega
  | ⟨2, _⟩ => show 0 * 8 + 1 * (0 + 1 * h.val) = h.val; omega
  | ⟨3, _⟩ => show 0 * 64 + 1 * (0 + 1 * e.val) = e.val; omega

/-- The projected queries. -/
theorem pay2_apply (x : Vec Ideal S1x512x768 .f32) (w : Vec Ideal S768x512 .f32) (i n : Fin 512) :
    k0_pay2 x w (ix2 i n) = ∑ k : Fin 768, x (ix3 z1 i k) * w (ix2 k n) := by
  unfold k0_pay2
  refine (Ideal.matmul_plain_apply (M := 512) (K := 768) (N := 512) none _ _ _ i n).trans ?_
  have h0 : (constant S512x512 .f32 0x00000000#32 : FVec Ideal S512x512 .f32) (ix2 i n) = 0 := Ideal.ofBits_zero_f32
  rw [h0, zero_add]
  refine Finset.sum_congr rfl fun k _ => ?_
  rw [shapeCast_self]
  congr 1
  refine shapeCast_apply _ _ _ _ ?_
  rewrite [Shape.rowMajor_val_three, Shape.rowMajor_val_two]
  show (0 * 512 + i.val) * 768 + k.val = i.val * 768 + k.val
  omega

theorem pay3_apply (x : Vec Ideal S1x512x8x64 .f32) (j : Fin 512) (h : Fin 8) (e : Fin 64) :
    k0_pay3 x (ix3 j h e) = x (ix4 z1 j h e) := by
  refine shapeCast_apply _ shapeCasts_S1x512x8x64_S512x8x64 _ _ ?_
  rewrite [Shape.rowMajor_val_three, Shape.rowMajor_val_four]
  show ((0 * 512 + j.val) * 8 + h.val) * 64 + e.val = (j.val * 8 + h.val) * 64 + e.val
  omega

theorem pay4_apply (x : Vec Ideal S1x512x8x64 .f32) (j : Fin 512) (h : Fin 8) (e : Fin 64) :
    k0_pay4 x (ix3 j h e) = x (ix4 z1 j h e) := pay3_apply x j h e

/-- A chunk of the context times the output projection. -/
theorem pay1_apply (x : Vec Ideal S1x128x512 .f32) (w : Vec Ideal S512x768 .f32) (r : Fin 128) (o : Fin 768) :
    k0_pay1 x w (ix3 z1 r o) = ∑ n : Fin 512, x (ix3 z1 r n) * w (ix2 n o) := by
  unfold k0_pay1
  refine (shapeCast_apply _ shapeCasts_S128x768_S1x128x768 _ (ix2 r o) ?_).trans ?_
  · rewrite [Shape.rowMajor_val_three, Shape.rowMajor_val_two]
    show r.val * 768 + o.val = (0 * 128 + r.val) * 768 + o.val
    omega
  refine (Ideal.matmul_plain_apply (M := 128) (K := 512) (N := 768) none _ _ _ r o).trans ?_
  have h0 : (constant S128x768 .f32 0x00000000#32 : FVec Ideal S128x768 .f32) (ix2 r o) = 0 := Ideal.ofBits_zero_f32
  rw [h0, zero_add]
  refine Finset.sum_congr rfl fun n _ => ?_
  rw [shapeCast_self]
  congr 1
  refine shapeCast_apply _ _ _ _ ?_
  rewrite [Shape.rowMajor_val_three, Shape.rowMajor_val_two]
  show (0 * 128 + r.val) * 512 + n.val = r.val * 512 + n.val
  omega

/-- The chunk a query row lies in. -/
abbrev chunkOf (i : Fin 512) : Fin 4 := ⟨i.val / 128, by omega⟩

/-- An entry of the context: a row of attention over the keys the row's chunk sees. -/
theorem ctxB_apply (b : Fin 2) (i : Fin 512) (h : Fin 8) (d : Fin 64) :
    ctxB m (ix3 b i (col h d))
      = row (N := seen (chunkOf i))
          (score (proj (a0 m 0) (a1 m 0) b i) (fun j e => a2 m 0 (ix4 b ⟨j.val, lt_of_lt_of_le j.isLt (seen_le _)⟩ h e)) h i.val)
          (fun j => a3 m 0 (ix4 b ⟨j.val, lt_of_lt_of_le j.isLt (seen_le _)⟩ h d)) := by
  have hi := i.isLt; have hh := h.isLt; have hd := d.isLt
  have e1 : ctxB m (ix3 b i (col h d)) = headV m b (chunkOf i) h (ix3 z1 ⟨i.val % 128, Nat.mod_lt _ (by decide)⟩ d) := by
    have eh : (⟨(col h d).val / 64, by have := (col h d).isLt; omega⟩ : Fin 8) = h := Fin.ext (by show (64 * h.val + d.val) / 64 = h.val; omega)
    have ei : headIx (ix3 b i (col h d)) = ix3 z1 ⟨i.val % 128, Nat.mod_lt _ (by decide)⟩ d := by
      funext a
      match a with
      | ⟨0, _⟩ => rfl
      | ⟨1, _⟩ => rfl
      | ⟨2, _⟩ => exact Fin.ext (by show (64 * h.val + d.val) % 64 = d.val; omega)
    show headV m b (chunkOf i) ⟨(col h d).val / 64, _⟩ (headIx (ix3 b i (col h d))) = _
    rw [ei]
    exact congrArg (fun g => headV m b (chunkOf i) g (ix3 z1 ⟨i.val % 128, Nat.mod_lt _ (by decide)⟩ d)) eh
  rw [e1]
  unfold headV
  rw [headOf_apply]
  have er : (⟨128 * (chunkOf i).val + i.val % 128, by show 128 * (i.val / 128) + i.val % 128 < 512; omega⟩ : Fin 512) = i :=
    Fin.ext (by show 128 * (i.val / 128) + i.val % 128 = i.val; omega)
  have er' : 128 * (chunkOf i).val + i.val % 128 = i.val := congrArg Fin.val er
  have hs : ks (seen_le (chunkOf i)) (k0_pay2 (xR m 0 b) (wqR m 0)) (k0_pay3 (kR m 0 b)) (chunkOf i) h ⟨i.val % 128, Nat.mod_lt _ (by decide)⟩
      = score (proj (a0 m 0) (a1 m 0) b i) (fun j e => a2 m 0 (ix4 b ⟨j.val, lt_of_lt_of_le j.isLt (seen_le _)⟩ h e)) h i.val := by
    funext j
    unfold ks score
    simp only [er', pay3_apply, kR_apply, pay2_apply, xR_apply, wqR_apply]
    rfl
  rw [hs]
  simp only [pay4_apply, vR_apply]

/-- An entry of a device's result. -/
theorem outB_apply (c : Dev nD) (b : Fin 2) (i : Fin 512) (o : Fin 768) :
    outB m c (ix3 b i o) = ∑ n : Fin 512, ctxB m (ix3 b i n) * a4 m c (ix2 n o) := by
  have hi := i.isLt; have hb := b.isLt
  have e : projIx (ix3 b i o) = ix3 z1 ⟨i.val % 128, Nat.mod_lt _ (by decide)⟩ o := by
    funext a; match a with | ⟨0, _⟩ => rfl | ⟨1, _⟩ => rfl | ⟨2, _⟩ => rfl
  unfold outB
  rw [e, pay1_apply]
  refine Finset.sum_congr rfl fun n _ => ?_
  rw [woR_apply]
  refine congrArg (· * a4 m c (ix2 n o)) ?_
  refine congrArg (ctxB m) (funext fun a => Fin.ext ?_)
  match a with
  | ⟨0, _⟩ => show (4 * b.val + i.val / 128) / 4 + 1 * 0 = b.val; omega
  | ⟨1, _⟩ => show 128 * ((4 * b.val + i.val / 128) % 4) + 1 * (i.val % 128) = i.val; omega
  | ⟨2, _⟩ => show 0 + 1 * n.val = n.val; omega

/-- The result's array after the run holds the device's result. -/
theorem finalA_out (c : Dev nD) : finalA m ρ c 5 = outB m c := by
  refine (dats (F := Ideal) m ρ 0 c).arrAt_eq_of_cover 5 (outB m c) (fun t _ => ?_) (fun i => ⟨t₀, ?_, ?_⟩)
  · rw [fin_N t]
    funext y
    refine congrArg (outB m c) (funext fun a => Fin.ext ?_)
    match a with
    | ⟨0, _⟩ => show (y 0).val = 0 * 2 + 1 * (y 0).val; omega
    | ⟨1, _⟩ => show (y 1).val = 0 * 512 + 1 * (y 1).val; omega
    | ⟨2, _⟩ => show (y 2).val = 0 * 768 + 1 * (y 2).val; omega
  · decide
  · have e : ((cfg0.win 5).blk t₀).view.emb i = i := funext fun a => Fin.ext (by
      match a with
      | ⟨0, _⟩ => show 0 * 2 + 1 * (i 0).val = (i 0).val; omega
      | ⟨1, _⟩ => show 0 * 512 + 1 * (i 1).val = (i 1).val; omega
      | ⟨2, _⟩ => show 0 * 768 + 1 * (i 2).val = (i 2).val; omega)
    exact e ▸ ((cfg0.win 5).blk t₀).view.emb_mem_set i

end Cert.RingIdeal
end
-- ==== Proof.RMask.lean ====
/-
  The reference's mask read at an entry, and that no query row is without a key.
-/
module

public import proofs.«01_k».proof.Proof.Gen.ReferenceIdeal.Read

@[expose] public section

noncomputable section

namespace Cert.RefIdeal

open Cert.ReferenceIdeal Cert.ReferenceIdeal.Gen Cert.ReferenceIdeal.Read
open Idealize.ShloMosaic Idealize.ShloMosaic.ValueIdx

/-- Division of a word by 64 rounded down, as the reference spells it. -/
def fd (x : BitVec 32) : BitVec 32 :=
  Scalar.select
    (IntOp.andi (IntOp.cmpi .ne (signi (s := ⟨0, ![]⟩) (fun _ => x) ix0) (signi (s := ⟨0, ![]⟩) (fun _ => 64#32) ix0))
      (IntOp.cmpi .ne (IntOp.remsi .host x 64#32) 0#32))
    (IntOp.subi (IntOp.divsi .host x 64#32) 1#32) (IntOp.divsi .host x 64#32)

theorem fd_ofNat (n : Fin 4096) : fd (BitVec.ofNat 32 n.val) = BitVec.ofNat 32 (n.val / 64) := by
  revert n; decide +kernel

theorem sle_ofNat (a b : Fin 64) :
    IntOp.cmpi .sle (BitVec.ofNat 32 a.val) (BitVec.ofNat 32 b.val) = BitVec.ofBool (decide (a.val ≤ b.val)) := by
  revert a b; decide +kernel

variable {F : FTy → Type} [FloatOps F]

theorem v3_apply (i : Fin 512) : val_main_v3 (F := F) (ix1 i) = fd (BitVec.ofNat 32 i.val) := rfl
theorem v6_apply (i : Fin 4096) : val_main_v6 (F := F) (ix1 i) = fd (BitVec.ofNat 32 i.val) := rfl

theorem mask_apply (i : Fin 512) (j : Fin 4096) :
    val_main_v10 (F := F) (ix2 i j) = BitVec.ofBool (decide (j.val / 64 ≤ i.val / 64)) := by
  rw [val_main_v10_apply, val_main_v8_apply, val_main_v7_apply, val_main_v9_apply, val_main_v4_apply]
  have e1 : idx_main_v7 (idx_main_v8 (ix2 i j)) = ix1 j := by funext a; match a with | ⟨0, _⟩ => rfl
  have e2 : idx_main_v4 (idx_main_v9 (ix2 i j)) = ix1 i := by funext a; match a with | ⟨0, _⟩ => rfl
  rw [e1, e2, v6_apply, v3_apply, fd_ofNat, fd_ofNat ⟨i.val, by omega⟩]
  exact sle_ofNat ⟨j.val / 64, by omega⟩ ⟨i.val / 64, by omega⟩

theorem red1 : (⟨2, ![512, 4096]⟩ : Shape).Reduces [1] ⟨1, ![512]⟩ := by decide

/-- Every query row sees a key. -/
theorem keep_apply (i : Fin 512) : val_main_v21 (F := F) (ix1 i) = 1#1 := by
  unfold val_main_v21
  rw [Host.reduce_eq_fold_single IntOp.ori _ _ reducesTo_S512x4096_S512_d1 red1 h_S_]
  have key : ∀ (S : Finset (Fin 4096)) (f : Fin 4096 → BitVec 1) (b : BitVec 1) (j : Fin 4096), j ∈ S → f j = 1#1 →
      S.fold IntOp.ori b f = 1#1 := by
    intro S f b j hj hf
    rw [← Finset.insert_erase hj, Finset.fold_insert (Finset.notMem_erase _ _), hf]
    generalize Finset.fold IntOp.ori b f (S.erase j) = y
    revert y; decide
  refine key _ _ _ ⟨0, by decide⟩ (Finset.mem_univ _) ?_
  have e : red1.lift (ix1 i) ⟨0, by decide⟩ = ix2 i ⟨0, by decide⟩ := by
    funext a; match a with | ⟨0, _⟩ => rfl | ⟨1, _⟩ => rfl
  show val_main_v10 (F := F) (red1.lift (ix1 i) ⟨0, by decide⟩) = _
  rw [e, mask_apply]
  simp

end Cert.RefIdeal
end
-- ==== Proof.RVal.lean ====
/-
  The reference's result read at an entry: rows of attention over all 4096 keys, times the output projection.
-/
module

public import proofs.«01_k».proof.Proof.RMask
public import proofs.«01_k».proof.Proof.Soft

@[expose] public section

noncomputable section

namespace Cert.RefIdeal

open Cert.ReferenceIdeal Cert.ReferenceIdeal.Gen Cert.ReferenceIdeal.Read
open Idealize.ShloMosaic Idealize.ShloMosaic.ValueIdx
open Cert.Soft

variable (x0 : Arr ⟨3, ![2, 512, 768]⟩) (x1 : Arr ⟨2, ![768, 512]⟩) (x2 x3 : Arr ⟨4, ![2, 4096, 8, 64]⟩) (x4 : Arr ⟨2, ![512, 768]⟩)

/-- A row's scores in the reference. -/
abbrev rs (b : Fin 2) (h : Fin 8) (i : Fin 512) : Fin 4096 → EReal :=
  score (proj x0 x1 b i) (fun j e => x2 (ix4 b j h e)) h i.val

theorem q_apply (b : Fin 2) (i : Fin 512) (h : Fin 8) (e : Fin 64) :
    val_main_v1 (F := Ideal) x0 x1 (ix4 b i h e) = proj x0 x1 b i (col h e) := by
  rw [val_main_v1_apply, val_main_v0_apply]
  refine Finset.sum_congr rfl fun k _ => ?_
  have hb := b.isLt; have hi := i.isLt; have hh := h.isLt; have he := e.isLt
  have e1 : lidx_main_v0 (idx_main_v1 (ix4 b i h e)) k = ix3 b i k := by
    funext a
    refine Fin.ext ?_
    match a with
    | ⟨0, _⟩ => show (((b.val * 512 + i.val) * 8 + h.val) * 64 + e.val) / 262144 = b.val; omega
    | ⟨1, _⟩ => show (((b.val * 512 + i.val) * 8 + h.val) * 64 + e.val) / 512 % 512 = i.val; omega
    | ⟨2, _⟩ => rfl
  have e2 : ridx_main_v0 (idx_main_v1 (ix4 b i h e)) k = ix2 k (col h e) := by
    funext a
    refine Fin.ext ?_
    match a with
    | ⟨0, _⟩ => rfl
    | ⟨1, _⟩ => show (((b.val * 512 + i.val) * 8 + h.val) * 64 + e.val) % 512 = 64 * h.val + e.val; omega
  rw [e1, e2]

theorem score_apply (b : Fin 2) (h : Fin 8) (i : Fin 512) (j : Fin 4096) :
    val_main_v15 (F := Ideal) x0 x1 x2 (ix4 b h i j) = rs x0 x1 x2 b h i j := by
  rw [val_main_v15_apply, val_main_call2_v1_apply, val_main_v14_apply, val_main_call2_v2_apply, val_main_v13_apply]
  have e1 : idx_main_v14 (idx_main_call2_v1 (ix4 b h i j)) = ix2 i j := by
    funext a; match a with | ⟨0, _⟩ => rfl | ⟨1, _⟩ => rfl
  have e2 : val_main_v11 (F := Ideal) x0 x1 x2 (ix4 b h i j) = ∑ e : Fin 64, proj x0 x1 b i (col h e) * x2 (ix4 b j h e) := by
    rw [val_main_v11_apply]
    refine Finset.sum_congr rfl fun e _ => ?_
    have e1 : lidx_main_v11 (ix4 b h i j) e = ix4 b i h e := by
      funext a; match a with | ⟨0, _⟩ => rfl | ⟨1, _⟩ => rfl | ⟨2, _⟩ => rfl | ⟨3, _⟩ => rfl
    have e2 : ridx_main_v11 (ix4 b h i j) e = ix4 b j h e := by
      funext a; match a with | ⟨0, _⟩ => rfl | ⟨1, _⟩ => rfl | ⟨2, _⟩ => rfl | ⟨3, _⟩ => rfl
    rw [e1, e2, q_apply]
  rw [e1, e2, mask_apply]
  unfold rs score
  by_cases hm : j.val / 64 ≤ i.val / 64
  · rw [if_pos hm, decide_eq_true hm]
    exact select_one _ _
  · rw [if_neg hm, decide_eq_false hm]
    refine (select_zero _ _).trans ?_
    show Ideal.ofBits .f32 0xFF800000#32 = ⊥
    simp [Ideal.ofBits, Ideal.ieee]

theorem red3 : (⟨4, ![2, 8, 512, 4096]⟩ : Shape).Reduces [3] ⟨3, ![2, 8, 512]⟩ := by decide

theorem neg_inf : Ideal.ofBits .f32 0xFF800000#32 = ⊥ := by
  simp [Ideal.ofBits, Ideal.ieee]

theorem top_apply (b : Fin 2) (h : Fin 8) (i : Fin 512) :
    val_main_v16 (F := Ideal) x0 x1 x2 (ix3 b h i) = top (rs x0 x1 x2 b h i) := by
  unfold val_main_v16
  rw [Host.reduce_eq_fold_single FloatOps.maximumf _ _ reducesTo_S2x8x512x4096_S2x8x512_d3 red3 h_S_]
  have hi : val_main_cst_2 (F := Ideal) (Shape.Idx.first h_S_) = ⊥ := neg_inf
  have hf : (val_main_v15 (F := Ideal) x0 x1 x2 ∘ red3.lift (ix3 b h i)) = rs x0 x1 x2 b h i := by
    funext (j : Fin 4096)
    have e : red3.lift (ix3 b h i) j = ix4 b h i j := by
      funext a; match a with | ⟨0, _⟩ => rfl | ⟨1, _⟩ => rfl | ⟨2, _⟩ => rfl | ⟨3, _⟩ => rfl
    exact (congrArg (val_main_v15 (F := Ideal) x0 x1 x2) e).trans (score_apply x0 x1 x2 b h i j)
  rw [hi, hf]
  exact fold_max _

theorem ex_apply (b : Fin 2) (h : Fin 8) (i : Fin 512) (j : Fin 4096) :
    val_main_v20 (F := Ideal) x0 x1 x2 (ix4 b h i j) = ex (rs x0 x1 x2 b h i) j := by
  rw [val_main_v20_apply, val_main_v19_apply, val_main_v18_apply, val_main_v17_apply, score_apply]
  have e : idx_main_v17 (idx_main_v18 (ix4 b h i j)) = ix3 b h i := by
    funext a; match a with | ⟨0, _⟩ => rfl | ⟨1, _⟩ => rfl | ⟨2, _⟩ => rfl
  rw [e, top_apply]
  rfl

theorem sum_apply (b : Fin 2) (h : Fin 8) (i : Fin 512) :
    val_main_v23 (F := Ideal) x0 x1 x2 (ix3 b h i) = ∑ j, ex (rs x0 x1 x2 b h i) j := by
  rw [val_main_v23_apply]
  have h0 : val_main_cst_4 (F := Ideal) (Shape.Idx.first h_S_) = 0 := Ideal.ofBits_zero_f32
  rw [h0, zero_add]
  refine Finset.sum_congr rfl fun j _ => ?_
  have e : idx_main_v23 (ix3 b h i) j = ix4 b h i j := by
    funext a; match a with | ⟨0, _⟩ => rfl | ⟨1, _⟩ => rfl | ⟨2, _⟩ => rfl | ⟨3, _⟩ => rfl
  rw [e, ex_apply]

theorem weight_apply (b : Fin 2) (h : Fin 8) (i : Fin 512) (j : Fin 4096) :
    val_main_v29 (F := Ideal) x0 x1 x2 (ix4 b h i j)
      = Ideal.div (ex (rs x0 x1 x2 b h i) j) (∑ k, ex (rs x0 x1 x2 b h i) k) := by
  rw [val_main_v29_apply, val_main_call4_v1_apply, val_main_v28_apply, val_main_v27_apply, val_main_v26_apply,
    val_main_v25_apply, val_main_call3_v1_apply, val_main_v22_apply, val_main_v24_apply, ex_apply]
  have e1 : idx_main_v28 (idx_main_call4_v1 (ix4 b h i j)) = ix1 i := by
    funext a; match a with | ⟨0, _⟩ => rfl
  have e2 : idx_main_v22 (idx_main_call3_v1 (idx_main_v26 (ix4 b h i j))) = ix1 i := by
    funext a; match a with | ⟨0, _⟩ => rfl
  have e3 : idx_main_v24 (idx_main_v26 (ix4 b h i j)) = ix3 b h i := by
    funext a; match a with | ⟨0, _⟩ => rfl | ⟨1, _⟩ => rfl | ⟨2, _⟩ => rfl
  rw [e1, e2, e3, keep_apply, select_one, select_one, sum_apply]
  rfl

theorem ctx_apply (b : Fin 2) (i : Fin 512) (h : Fin 8) (d : Fin 64) :
    val_main_v32 (F := Ideal) x0 x1 x2 x3 (ix3 b i (col h d))
      = row (rs x0 x1 x2 b h i) (fun j => x3 (ix4 b j h d)) := by
  rw [val_main_v32_apply, val_main_v31_apply, val_main_v30_apply]
  refine Finset.sum_congr rfl fun j _ => ?_
  have hb := b.isLt; have hi := i.isLt; have hh := h.isLt; have hd := d.isLt
  have hx : idx_main_v31 (idx_main_v32 (ix3 b i (col h d))) = ix4 b h d i := by
    funext a
    refine Fin.ext ?_
    match a with
    | ⟨0, _⟩ => show ((b.val * 512 + i.val) * 512 + (64 * h.val + d.val)) / 262144 = b.val; omega
    | ⟨1, _⟩ => show ((b.val * 512 + i.val) * 512 + (64 * h.val + d.val)) / 64 % 8 = h.val; omega
    | ⟨2, _⟩ => show ((b.val * 512 + i.val) * 512 + (64 * h.val + d.val)) % 64 = d.val; omega
    | ⟨3, _⟩ => show ((b.val * 512 + i.val) * 512 + (64 * h.val + d.val)) / 512 % 512 = i.val; omega
  rw [hx]
  have e1 : lidx_main_v30 (ix4 b h d i) j = ix4 b j h d := by
    funext a; match a with | ⟨0, _⟩ => rfl | ⟨1, _⟩ => rfl | ⟨2, _⟩ => rfl | ⟨3, _⟩ => rfl
  have e2 : ridx_main_v30 (ix4 b h d i) j = ix4 b h i j := by
    funext a; match a with | ⟨0, _⟩ => rfl | ⟨1, _⟩ => rfl | ⟨2, _⟩ => rfl | ⟨3, _⟩ => rfl
  rw [e1, e2, weight_apply, mul_comm]

/-- An entry of the reference's result. -/
theorem out_apply (b : Fin 2) (i : Fin 512) (o : Fin 768) :
    val_main_v33 (F := Ideal) x0 x1 x2 x3 x4 (ix3 b i o)
      = ∑ n : Fin 512, val_main_v32 (F := Ideal) x0 x1 x2 x3 (ix3 b i n) * x4 (ix2 n o) := by
  rw [val_main_v33_apply]
  refine Finset.sum_congr rfl fun n _ => ?_
  have e1 : lidx_main_v33 (ix3 b i o) n = ix3 b i n := by
    funext a; match a with | ⟨0, _⟩ => rfl | ⟨1, _⟩ => rfl | ⟨2, _⟩ => rfl
  have e2 : ridx_main_v33 (ix3 b i o) n = ix2 n o := by
    funext a; match a with | ⟨0, _⟩ => rfl | ⟨1, _⟩ => rfl
  rw [e1, e2]

end Cert.RefIdeal
end
-- ==== Proof.Value.lean ====
/-
  The value claim: every device's result is the reference's.
-/
module

public import proofs.«01_k».proof.Proof.OutVal
public import proofs.«01_k».proof.Proof.RVal
public import proofs.«01_k».proof.Proof.Finite
public import Idealize.ShloMosaic.Lib.Layout

@[expose] public section

noncomputable section

namespace Cert.Value

open Idealize.ShloMosaic Idealize.ShloMosaic.ValueIdx Idealize.SL.Sem
open Cert.Soft

/-- An entry of the context is the same over the keys a row's chunk sees and over all 4096 keys. -/
theorem row_eq (x : Arr ⟨3, ![2, 512, 768]⟩) (w : Arr ⟨2, ![768, 512]⟩) (k v : Arr ⟨4, ![2, 4096, 8, 64]⟩)
    (hx : ∀ i, ∃ r : ℝ, x i = r) (hw : ∀ i, ∃ r : ℝ, w i = r)
    (hk : ∀ (b : Fin 2) (j : Fin 4096) (h : Fin 8) (e : Fin 64), j.val < 512 → ∃ r : ℝ, k (ix4 b j h e) = r)
    (b : Fin 2) (i : Fin 512) (h : Fin 8) (d : Fin 64) (K : ℕ) (hK : K ≤ 4096) (hiK : 64 * (i.val / 64 + 1) ≤ K) :
    row (N := K) (score (proj x w b i) (fun j e => k (ix4 b (Fin.castLE hK j) h e)) h i.val) (fun j => v (ix4 b (Fin.castLE hK j) h d))
      = row (score (proj x w b i) (fun j e => k (ix4 b j h e)) h i.val) (fun j : Fin 4096 => v (ix4 b j h d)) := by
  have hi := i.isLt
  have hq : ∀ n, ∃ r : ℝ, proj x w b i n = r := fun n => sum_mul_real _ _ (fun k => hx _) (fun k => hw _)
  have hs : ∀ j : Fin 4096, j.val / 64 ≤ i.val / 64 →
      ∃ r : ℝ, score (proj x w b i) (fun j e => k (ix4 b j h e)) h i.val j = r := fun j hj => by
    obtain ⟨r, hr⟩ := sum_mul_real (fun e => proj x w b i (col h e)) (fun e => k (ix4 b j h e)) (fun e => hq _)
      (fun e => hk b j h e (by omega))
    refine ⟨r * 0.125, ?_⟩
    unfold score
    rw [if_pos hj, hr, eighth_eq, EReal.coe_mul]
  refine row_castLE hK (score (proj x w b i) (fun j e => k (ix4 b j h e)) h i.val) (fun j : Fin 4096 => v (ix4 b j h d))
    ⟨0, by decide⟩ ?_ ?_ ?_
  · obtain ⟨r, hr⟩ := hs ⟨0, by decide⟩ (Nat.zero_le _)
    rw [hr]; exact EReal.coe_ne_bot r
  · intro j
    by_cases hj : j.val / 64 ≤ i.val / 64
    · obtain ⟨r, hr⟩ := hs j hj
      rw [hr]; exact EReal.coe_ne_top r
    · unfold score; rw [if_neg hj]; exact bot_ne_top
  · intro j hj
    unfold score
    rw [if_neg (by omega)]

open Cert.KernelIdeal in
/-- A device's result from the arrays at launch is the reference's from the whole arrays. -/
theorem out_eq (m : (ℓ : Loc nD τ sig) → Buf (Elt Ideal) ℓ) (c : Dev nD)
    (x : Arr ⟨3, ![2, 512, 768]⟩) (w : Arr ⟨2, ![768, 512]⟩) (k v : Arr ⟨4, ![2, 4096, 8, 64]⟩) (o : Arr ⟨2, ![512, 768]⟩)
    (hx : ∀ i, ∃ r : ℝ, x i = r) (hw : ∀ i, ∃ r : ℝ, w i = r) (hk : ∀ i, ∃ r : ℝ, Cert.RingIdeal.a2 m 0 i = r)
    (e0 : Cert.RingIdeal.a0 m 0 = x) (e1 : Cert.RingIdeal.a1 m 0 = w)
    (e2 : Cert.RingIdeal.a2 m 0 = Layout.block ⟨4, ![2, 512, 8, 64]⟩ ⟨4, ![2, 4096, 8, 64]⟩ 1 8 0 k)
    (e3 : Cert.RingIdeal.a3 m 0 = Layout.block ⟨4, ![2, 512, 8, 64]⟩ ⟨4, ![2, 4096, 8, 64]⟩ 1 8 0 v)
    (e4 : Cert.RingIdeal.a4 m c = o) :
    Cert.RingIdeal.outB m c = Cert.ReferenceIdeal.Read.val_main_v33 (F := Ideal) x w k v o := by
  have hblk : ∀ (u : Arr ⟨4, ![2, 4096, 8, 64]⟩) (b : Fin 2) (j : Fin 512) (h : Fin 8) (e : Fin 64),
      Layout.block ⟨4, ![2, 512, 8, 64]⟩ ⟨4, ![2, 4096, 8, 64]⟩ 1 8 0 u (by decide) (ix4 b j h e) = u (ix4 b ⟨j.val, by omega⟩ h e) := by
    intro u b j h e
    refine congrArg u (funext fun a => Fin.ext ?_)
    match a with
    | ⟨0, _⟩ => rfl
    | ⟨1, _⟩ => show 0 * 512 + j.val = j.val; omega
    | ⟨2, _⟩ => rfl
    | ⟨3, _⟩ => rfl
  funext y
  obtain ⟨b, i, n, rfl⟩ : ∃ (b : Fin 2) (i : Fin 512) (n : Fin 768), y = ix3 b i n := ⟨y 0, y 1, y 2, eq_ix3 y⟩
  refine (Cert.RingIdeal.outB_apply m c b i n).trans ((Finset.sum_congr rfl fun l _ => ?_).trans (Cert.RefIdeal.out_apply x w k v o b i n).symm)
  rw [e4]
  refine congrArg (· * o (ix2 l n)) ?_
  obtain ⟨h, d, rfl⟩ : ∃ (h : Fin 8) (d : Fin 64), l = col h d :=
    ⟨⟨l.val / 64, by omega⟩, ⟨l.val % 64, Nat.mod_lt _ (by decide)⟩, Fin.ext (by show l.val = 64 * (l.val / 64) + l.val % 64; omega)⟩
  rw [Cert.RingIdeal.ctxB_apply, Cert.RefIdeal.ctx_apply, e0, e1, e2, e3]
  have hi := i.isLt
  have hlt : Cert.RingIdeal.seen (Cert.RingIdeal.chunkOf i) ≤ 4096 := le_trans (Cert.RingIdeal.seen_le _) (by decide)
  have hkr : ∀ (b : Fin 2) (j : Fin 4096) (h : Fin 8) (e : Fin 64), j.val < 512 → ∃ r : ℝ, k (ix4 b j h e) = r := fun b j h e hj => by
    obtain ⟨r, hr⟩ := hk (ix4 b ⟨j.val, hj⟩ h e)
    rw [e2, hblk] at hr
    exact ⟨r, hr⟩
  refine Eq.trans ?_ (row_eq x w k v hx hw hkr b i h d (Cert.RingIdeal.seen (Cert.RingIdeal.chunkOf i)) hlt
    (by show 64 * (i.val / 64 + 1) ≤ 128 * (i.val / 128 + 1); omega))
  simp only [hblk]
  rfl

/-- The value claim. -/
theorem algebraic :
    Cert.algebraic_KernelIdeal_ReferenceIdeal_pre_finite_scores_KernelIdeal (hKernelIdeal := Cert.KernelIdeal.Gen.facts)
      (hReferenceIdeal := Cert.ReferenceIdeal.Gen.facts) (hPre_finite_scores_KernelIdeal := Cert.Finite.factsK) := by
  intro m g m' g' hpre hin
  letI := Cert.Finite.factsK
  refine ⟨Cert.ReferenceIdeal.Value.res_main_v33 (F := Ideal) m' 0, ?_, ?_⟩
  · refine (θ_run _ _ _).mono (fun r h c => ?_) (Cert.RingIdeal.run_main (F := Ideal) m g)
    have hw := h.1 c
    have hout : Cert.RingIdeal.outB m c = Cert.ReferenceIdeal.Value.res_main_v33 (F := Ideal) m' 0 := by
      rw [Cert.ReferenceIdeal.Read.val_main_v33_eq]
      refine out_eq m c _ _ _ _ _ ?_ ?_ ?_ (hin 0).1 (hin 0).2.1 (hin 0).2.2.1 (hin 0).2.2.2.1 (hin c).2.2.2.2
      · rw [← (hin 0).1]; exact Cert.Finite.x_real _ _ _ _ _ (hpre 0).1
      · rw [← (hin 0).2.1]; exact Cert.Finite.w_real _ _ _ _ _ (hpre 0).2.1
      · exact Cert.Finite.k_real _ _ _ _ _ (hpre 0).2.2
    exact ⟨(hw 5).trans ((Cert.RingIdeal.finalA_out m g c).trans hout),
      (hw 0).trans (Cert.RingIdeal.finalA_in m g c 0 (by decide)), (hw 1).trans (Cert.RingIdeal.finalA_in m g c 1 (by decide)),
      (hw 2).trans (Cert.RingIdeal.finalA_in m g c 2 (by decide)), (hw 3).trans (Cert.RingIdeal.finalA_in m g c 3 (by decide)),
      (hw 4).trans (Cert.RingIdeal.finalA_in m g c 4 (by decide))⟩
  · exact (θ_run Cert.ReferenceIdeal.defs _ _).mono (fun r h => h 0) (Cert.ReferenceIdeal.Value.run (F := Ideal) m' g')

end Cert.Value
end
-- ==== Proof.lean ====
/- The proof of the claim: the frames of the three programs, the idealization's one named constant and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Ref
public import proofs.«01_k».proof.Proof.Finite
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.factsK, Cert.Finite.factsR,
    Cert.Frames.kernel, Cert.Frames.kernelIdeal, fun m g _ => Cert.Frames.run_args m g,
    Cert.Frames.referenceIdeal, fun m g _ => Cert.Frames.referenceIdeal m g trivial,
    IdealRules.named_const.statement Cert.KernelIdeal.κ "mask" .f32 0xCE6E6B28#32 ⊥ rfl,
    Cert.Value.algebraic⟩

end Cert.Proof

end
